-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_norm_finite_args [hPre_plain_norm_finite_args : Cert.Pre_plain_norm_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_plain_norm_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_norm_finite_args [hPre_plain_norm_finite_args : Cert.Pre_plain_norm_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_norm_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_plain_norm_finite_args [hKernelIdeal : Cert.KernelIdeal.Facts] [hPre_plain_norm_finite_args : Cert.Pre_plain_norm_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_norm_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_plain_norm_finite_args [hReferenceIdeal : Cert.ReferenceIdeal.Facts] [hPre_plain_norm_finite_args : Cert.Pre_plain_norm_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_norm_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_h" .f32 0x3AAAAAAB#32 ((768⁻¹ : ℝ) : EReal)

def algebraic_KernelIdeal_ReferenceIdeal_pre_plain_norm_finite_args [hKernelIdeal : Cert.KernelIdeal.Facts] [hReferenceIdeal : Cert.ReferenceIdeal.Facts] [hPre_plain_norm_finite_args : Cert.Pre_plain_norm_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_norm_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_plain_norm_finite_args : Cert.Pre_plain_norm_finite_args.Facts),
    quiescent_Kernel (hKernel := hKernel)
    ∧ quiescent_KernelIdeal (hKernelIdeal := hKernelIdeal)
    ∧ quiescent_KernelIdeal_pre_plain_norm_finite_args (hKernelIdeal := hKernelIdeal) (hPre_plain_norm_finite_args := hPre_plain_norm_finite_args)
    ∧ quiescent_ReferenceIdeal (hReferenceIdeal := hReferenceIdeal)
    ∧ quiescent_ReferenceIdeal_pre_plain_norm_finite_args (hReferenceIdeal := hReferenceIdeal) (hPre_plain_norm_finite_args := hPre_plain_norm_finite_args)
    ∧ preserves_Kernel_KernelIdeal
    ∧ algebraic_KernelIdeal_ReferenceIdeal_pre_plain_norm_finite_args (hKernelIdeal := hKernelIdeal) (hReferenceIdeal := hReferenceIdeal) (hPre_plain_norm_finite_args := hPre_plain_norm_finite_args)
-- ==== Pre_plain_norm_finite_args.lean ====
abbrev S8192x768 : Shape := ⟨2, ![8192, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S_ : Shape := ⟨0, ![]⟩

class Facts : Prop where
  bcast_S_S8x768 : S_.BroadcastsInDim S8x768 (![] : Fin 0 → Fin S8x768.rank)
  reducesTo_S8x768_S_d0_1 : S8x768.ReducesTo [0, 1] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S8x768x768 : S_.BroadcastsInDim S8x768x768 (![] : Fin 0 → Fin S8x768x768.rank)
  reducesTo_S8x768x768_S_d0_1_2 : S8x768x768.ReducesTo [0, 1, 2] S_

variable [Facts]

def fn_part1 {F : FTy → Type} [FloatOps F] (main_arg3 : FVec F S8x768x768 .f32) (main_v14 : IVec S_ 1) (main_v15 : FVec F S8192x768 .f32) : IVec S_ 1 :=
  let main_cst_6 : FVec F S_ .f32 := constant S_ .f32 0x7F800000#32
  let main_v16 : FVec F S8192x768 .f32 := broadcastInDim S8192x768 ![] bcast_S_S8192x768 main_cst_6
  let main_v17 : IVec S8192x768 1 := cmpf .olt main_v15 main_v16
  let main_c_7 : IVec S_ 1 := constantI S_ 1 1#1
  let main_v18 : IVec S_ 1 := (fun x v => Host.reduce IntOp.andi x v reducesTo_S8192x768_S_d0_1 h_S_) main_v17 main_c_7
  let main_v19 : FVec F S8x768x768 .f32 := Host.absf main_arg3
  let main_cst_8 : FVec F S_ .f32 := constant S_ .f32 0x7F800000#32
  let main_v20 : FVec F S8x768x768 .f32 := broadcastInDim S8x768x768 ![] bcast_S_S8x768x768 main_cst_8
  let main_v21 : IVec S8x768x768 1 := cmpf .olt main_v19 main_v20
  let main_c_9 : IVec S_ 1 := constantI S_ 1 1#1
  let main_v22 : IVec S_ 1 := (fun x v => Host.reduce IntOp.andi x v reducesTo_S8x768x768_S_d0_1_2 h_S_) main_v21 main_c_9
  let main_v23 : IVec S_ 1 := andi main_v18 main_v22
  let main_v24 : IVec S_ 1 := andi main_v14 main_v23
  main_v24

def fn {F : FTy → Type} [FloatOps F] (main_arg0 : FVec F S8192x768 .f32) (main_arg1 : FVec F S768x8 .f32) (main_arg2 : FVec F S8 .f32) (main_arg3 : FVec F S8x768x768 .f32) (main_arg4 : FVec F S8x768 .f32) (main_arg5 : FVec F S8x768 .f32) (main_arg6 : FVec F S8x768 .f32) (main_arg7 : FVec F S8x768x768 .f32) (main_arg8 : FVec F S8x768 .f32) : IVec S_ 1 :=
  let main_cst : FVec F S_ .f32 := constant S_ .f32 0x00000000#32
  let main_v0 : FVec F S8x768 .f32 := broadcastInDim S8x768 ![] bcast_S_S8x768 main_cst
  let main_v1 : IVec S8x768 1 := cmpf .oeq main_arg4 main_v0
  let main_c : IVec S_ 1 := constantI S_ 1 1#1
  let main_v2 : IVec S_ 1 := (fun x v => Host.reduce IntOp.andi x v reducesTo_S8x768_S_d0_1 h_S_) main_v1 main_c
  let main_cst_0 : FVec F S_ .f32 := constant S_ .f32 0x3F800000#32
  let main_v3 : FVec F S8x768 .f32 := broadcastInDim S8x768 ![] bcast_S_S8x768 main_cst_0
  let main_v4 : IVec S8x768 1 := cmpf .oeq main_arg5 main_v3
  let main_c_1 : IVec S_ 1 := constantI S_ 1 1#1
  let main_v5 : IVec S_ 1 := (fun x v => Host.reduce IntOp.andi x v reducesTo_S8x768_S_d0_1 h_S_) main_v4 main_c_1
  let main_v6 : IVec S_ 1 := andi main_v2 main_v5
  let main_cst_2 : FVec F S_ .f32 := constant S_ .f32 0x00000000#32
  let main_v7 : FVec F S8x768 .f32 := broadcastInDim S8x768 ![] bcast_S_S8x768 main_cst_2
  let main_v8 : IVec S8x768 1 := cmpf .oeq main_arg6 main_v7
  let main_c_3 : IVec S_ 1 := constantI S_ 1 1#1
  let main_v9 : IVec S_ 1 := (fun x v => Host.reduce IntOp.andi x v reducesTo_S8x768_S_d0_1 h_S_) main_v8 main_c_3
  let main_v10 : IVec S_ 1 := andi main_v6 main_v9
  let main_cst_4 : FVec F S_ .f32 := constant S_ .f32 0x00000000#32
  let main_v11 : FVec F S8x768 .f32 := broadcastInDim S8x768 ![] bcast_S_S8x768 main_cst_4
  let main_v12 : IVec S8x768 1 := cmpf .oeq main_arg8 main_v11
  let main_c_5 : IVec S_ 1 := constantI S_ 1 1#1
  let main_v13 : IVec S_ 1 := (fun x v => Host.reduce IntOp.andi x v reducesTo_S8x768_S_d0_1 h_S_) main_v12 main_c_5
  let main_v14 : IVec S_ 1 := andi main_v10 main_v13
  let main_v15 : FVec F S8192x768 .f32 := Host.absf main_arg0
  fn_part1 (F := F) main_arg3 main_v14 main_v15
-- ==== Kernel.lean ====
abbrev S8192x768 : Shape := ⟨2, ![8192, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S1x8 : Shape := ⟨2, ![1, 8]⟩
abbrev S512x768 : Shape := ⟨2, ![512, 768]⟩
abbrev S2x768x768 : Shape := ⟨3, ![2, 768, 768]⟩
abbrev S6144x768 : Shape := ⟨2, ![6144, 768]⟩
abbrev S512x6144 : Shape := ⟨2, ![512, 6144]⟩
abbrev S1x768x768 : Shape := ⟨3, ![1, 768, 768]⟩
abbrev S768x768 : Shape := ⟨2, ![768, 768]⟩
abbrev S768 : Shape := ⟨1, ![768]⟩
abbrev S768x1 : Shape := ⟨2, ![768, 1]⟩
abbrev S1x768 : Shape := ⟨2, ![1, 768]⟩
abbrev S512x8 : Shape := ⟨2, ![512, 8]⟩
abbrev S512 : Shape := ⟨1, ![512]⟩
abbrev S512x1 : Shape := ⟨2, ![512, 1]⟩

abbrev nBuf : Space → Nat
  | .hbm => 11
  | .vmem => 14
  | .smem => 0
  | _ => 0

abbrev bufTy : (tb : Table) → Fin (tcTables nBuf tb) → BufTy
  | .hbm, ⟨0, _⟩ => ⟨S8192x768, .f32⟩
  | .hbm, ⟨1, _⟩ => ⟨S768x8, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768x768, .f32⟩
  | .hbm, ⟨8, _⟩ => ⟨S8x768, .f32⟩
  | .hbm, ⟨9, _⟩ => ⟨S1x8, .f32⟩
  | .hbm, ⟨10, _⟩ => ⟨S8192x768, .f32⟩
  | .local _ .vmem, ⟨0, _⟩ => ⟨S512x768, .f32⟩
  | .local _ .vmem, ⟨1, _⟩ => ⟨S512x768, .f32⟩
  | .local _ .vmem, ⟨2, _⟩ => ⟨S768x8, .f32⟩
  | .local _ .vmem, ⟨3, _⟩ => ⟨S1x8, .f32⟩
  | .local _ .vmem, ⟨4, _⟩ => ⟨S2x768x768, .f32⟩
  | .local _ .vmem, ⟨5, _⟩ => ⟨S2x768x768, .f32⟩
  | .local _ .vmem, ⟨6, _⟩ => ⟨S2x768x768, .f32⟩
  | .local _ .vmem, ⟨7, _⟩ => ⟨S2x768x768, .f32⟩
  | .local _ .vmem, ⟨8, _⟩ => ⟨S512x768, .f32⟩
  | .local _ .vmem, ⟨9, _⟩ => ⟨S512x768, .f32⟩
  | .local _ .vmem, ⟨10, _⟩ => ⟨S8x768x768, .bf16⟩
  | .local _ .vmem, ⟨11, _⟩ => ⟨S6144x768, .bf16⟩
  | .local _ .vmem, ⟨12, _⟩ => ⟨S8x768, .f32⟩
  | .local _ .vmem, ⟨13, _⟩ => ⟨S512x6144, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) (c0_i32_4 : BitVec 32) : Fin 3 → Nat :=
  let c2_i32 : BitVec 32 := 2#32
  let arg0 : BitVec 32 := BitVec.ofNat 32 (i 0).val
  let v9 : BitVec 32 := Scalar.muli c2_i32 arg0
  let v10 : BitVec 32 := Scalar.addi v9 c0_i32_4
  let v11 : Index := Scalar.indexCast v10
  let c0_5 : Index := 0#32
  let c0_6 : Index := 0#32
  ![v11.toNat, 0, 0]
def k0_off2 (i : grid0.Coords) (c0_i32_11 : BitVec 32) : Fin 2 → Nat :=
  let c2_i32_10 : BitVec 32 := 2#32
  let arg0 : BitVec 32 := BitVec.ofNat 32 (i 0).val
  let v18 : BitVec 32 := Scalar.muli c2_i32_10 arg0
  let v19 : BitVec 32 := Scalar.addi v18 c0_i32_11
  let c768_i32 : BitVec 32 := 768#32
  let v20 : BitVec 32 := Scalar.muli v19 c768_i32
  let v21 : Index := Scalar.indexCast v20
  let c0_12 : Index := 0#32
  ![v21.toNat, 0]
def k0_off3 (i : grid0.Coords) (c0_i32_15 : BitVec 32) : Fin 2 → Nat :=
  let c2_i32_14 : BitVec 32 := 2#32
  let arg0 : BitVec 32 := BitVec.ofNat 32 (i 0).val
  let v30 : BitVec 32 := Scalar.muli c2_i32_14 arg0
  let v31 : BitVec 32 := Scalar.addi v30 c0_i32_15
  let v32 : Index := Scalar.indexCast v31
  let c0_16 : Index := 0#32
  ![v32.toNat, 0]
def k0_cond2 (i : grid0.Coords) : BitVec 1 :=
  let arg0 : BitVec 32 := BitVec.ofNat 32 (i 0).val
  let c4_i32_0 : BitVec 32 := 4#32
  let v3 : BitVec 1 := Scalar.cmpi .sge arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x768x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x768x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "inv_h" => some ((768⁻¹ : ℝ) : EReal)
  | _ => none
-- ==== ReferenceIdeal.lean ====
abbrev S8192x768 : Shape := ⟨2, ![8192, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S8192x8 : Shape := ⟨2, ![8192, 8]⟩
abbrev S1x8 : Shape := ⟨2, ![1, 8]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S8192x8x768 : Shape := ⟨3, ![8192, 8, 768]⟩
abbrev S1x8x768 : Shape := ⟨3, ![1, 8, 768]⟩
abbrev S8192x8x1 : Shape := ⟨3, ![8192, 8, 1]⟩
abbrev S8x768x8192 : Shape := ⟨3, ![8, 768, 8192]⟩
abbrev S8192x2x1 : Shape := ⟨3, ![8192, 2, 1]⟩
abbrev S1 : Shape := ⟨1, ![1]⟩
abbrev S1x1x1 : Shape := ⟨3, ![1, 1, 1]⟩
abbrev S8192x2x768 : Shape := ⟨3, ![8192, 2, 768]⟩

abbrev nBuf : Space → Nat
  | .hbm => 124
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x8, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768x768, .f32⟩
  | .hbm, ⟨8, _⟩ => ⟨S8x768, .f32⟩
  | .hbm, ⟨9, _⟩ => ⟨S8192x8, .f32⟩
  | .hbm, ⟨10, _⟩ => ⟨S1x8, .f32⟩
  | .hbm, ⟨11, _⟩ => ⟨S8192x8, .f32⟩
  | .hbm, ⟨12, _⟩ => ⟨S8192x8, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x8, .f32⟩
  | .hbm, ⟨26, _⟩ => ⟨S8192x8, .f32⟩
  | .hbm, ⟨27, _⟩ => ⟨S8192x2, .f32⟩
  | .hbm, ⟨28, _⟩ => ⟨S8192x2, .i32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x2, .f32⟩
  | .hbm, ⟨33, _⟩ => ⟨S8192x2, .f32⟩
  | .hbm, ⟨34, _⟩ => ⟨S8192x8x768, .f32⟩
  | .hbm, ⟨35, _⟩ => ⟨S1x8x768, .f32⟩
  | .hbm, ⟨36, _⟩ => ⟨S8192x8x768, .f32⟩
  | .hbm, ⟨37, _⟩ => ⟨S8192x8x768, .f32⟩
  | .hbm, ⟨38, _⟩ => ⟨S_, .f32⟩
  | .hbm, ⟨39, _⟩ => ⟨S8192x8, .f32⟩
  | .hbm, ⟨40, _⟩ => ⟨S8192x8x1, .f32⟩
  | .hbm, ⟨41, _⟩ => ⟨S_, .f32⟩
  | .hbm, ⟨42, _⟩ => ⟨S8192x8x1, .f32⟩
  | .hbm, ⟨43, _⟩ => ⟨S8192x8x1, .f32⟩
  | .hbm, ⟨44, _⟩ => ⟨S_, .i32⟩
  | .hbm, ⟨45, _⟩ => ⟨S_, .f32⟩
  | .hbm, ⟨46, _⟩ => ⟨S8192x8, .f32⟩
  | .hbm, ⟨47, _⟩ => ⟨S8192x8x1, .f32⟩
  | .hbm, ⟨48, _⟩ => ⟨S_, .f32⟩
  | .hbm, ⟨49, _⟩ => ⟨S8192x8x1, .f32⟩
  | .hbm, ⟨50, _⟩ => ⟨S8192x8x1, .f32⟩
  | .hbm, ⟨51, _⟩ => ⟨S8192x8x768, .f32⟩
  | .hbm, ⟨52, _⟩ => ⟨S8192x8x768, .f32⟩
  | .hbm, ⟨53, _⟩ => ⟨S8192x8x768, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192x8, .f32⟩
  | .hbm, ⟨59, _⟩ => ⟨S8192x8x1, .f32⟩
  | .hbm, ⟨60, _⟩ => ⟨S8192x8x1, .f32⟩
  | .hbm, ⟨61, _⟩ => ⟨S8192x8x1, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S8192x8x1, .f32⟩
  | .hbm, ⟨67, _⟩ => ⟨S8192x8x1, .f32⟩
  | .hbm, ⟨68, _⟩ => ⟨S8192x8x768, .f32⟩
  | .hbm, ⟨69, _⟩ => ⟨S8192x8x768, .f32⟩
  | .hbm, ⟨70, _⟩ => ⟨S_, .f32⟩
  | .hbm, ⟨71, _⟩ => ⟨S8192x8x1, .f32⟩
  | .hbm, ⟨72, _⟩ => ⟨S8192x8x1, .f32⟩
  | .hbm, ⟨73, _⟩ => ⟨S8192x8x1, .f32⟩
  | .hbm, ⟨74, _⟩ => ⟨S8192x8x768, .f32⟩
  | .hbm, ⟨75, _⟩ => ⟨S8192x8x768, .f32⟩
  | .hbm, ⟨76, _⟩ => ⟨S1x8x768, .f32⟩
  | .hbm, ⟨77, _⟩ => ⟨S8192x8x768, .f32⟩
  | .hbm, ⟨78, _⟩ => ⟨S8192x8x768, .f32⟩
  | .hbm, ⟨79, _⟩ => ⟨S1x8x768, .f32⟩
  | .hbm, ⟨80, _⟩ => ⟨S8192x8x768, .f32⟩
  | .hbm, ⟨81, _⟩ => ⟨S8192x8x768, .f32⟩
  | .hbm, ⟨82, _⟩ => ⟨S_, .f32⟩
  | .hbm, ⟨83, _⟩ => ⟨S8192x8x768, .f32⟩
  | .hbm, ⟨84, _⟩ => ⟨S8192x8x768, .f32⟩
  | .hbm, ⟨85, _⟩ => ⟨S8192x8x768, .f32⟩
  | .hbm, ⟨86, _⟩ => ⟨S_, .f32⟩
  | .hbm, ⟨87, _⟩ => ⟨S8192x8x768, .f32⟩
  | .hbm, ⟨88, _⟩ => ⟨S8192x8x768, .f32⟩
  | .hbm, ⟨89, _⟩ => ⟨S8192x8x768, .f32⟩
  | .hbm, ⟨90, _⟩ => ⟨S8192x8x768, .f32⟩
  | .hbm, ⟨91, _⟩ => ⟨S8x768x8192, .f32⟩
  | .hbm, ⟨92, _⟩ => ⟨S8192x8x768, .f32⟩
  | .hbm, ⟨93, _⟩ => ⟨S1x8x768, .f32⟩
  | .hbm, ⟨94, _⟩ => ⟨S8192x8x768, .f32⟩
  | .hbm, ⟨95, _⟩ => ⟨S8192x8x768, .f32⟩
  | .hbm, ⟨96, _⟩ => ⟨S8192x2x1, .i32⟩
  | .hbm, ⟨97, _⟩ => ⟨S_, .i32⟩
  | .hbm, ⟨98, _⟩ => ⟨S8192x2x1, .i32⟩
  | .hbm, ⟨99, _⟩ => ⟨S8192x2x1, .i1⟩
  | .hbm, ⟨100, _⟩ => ⟨S_, .i32⟩
  | .hbm, ⟨101, _⟩ => ⟨S8192x2x1, .i32⟩
  | .hbm, ⟨102, _⟩ => ⟨S8192x2x1, .i32⟩
  | .hbm, ⟨103, _⟩ => ⟨S8192x2x1, .i32⟩
  | .hbm, ⟨104, _⟩ => ⟨S1, .i32⟩
  | .hbm, ⟨105, _⟩ => ⟨S_, .i32⟩
  | .hbm, ⟨106, _⟩ => ⟨S8192x2x1, .i32⟩
  | .hbm, ⟨107, _⟩ => ⟨S8192x2x1, .i1⟩
  | .hbm, ⟨108, _⟩ => ⟨S1x1x1, .i32⟩
  | .hbm, ⟨109, _⟩ => ⟨S8192x2x1, .i32⟩
  | .hbm, ⟨110, _⟩ => ⟨S8192x2x1, .i1⟩
  | .hbm, ⟨111, _⟩ => ⟨S8192x2x1, .i1⟩
  | .hbm, ⟨112, _⟩ => ⟨S_, .i1⟩
  | .hbm, ⟨113, _⟩ => ⟨S8192x2, .i1⟩
  | .hbm, ⟨114, _⟩ => ⟨S8192x2x768, .f32⟩
  | .hbm, ⟨115, _⟩ => ⟨S8192x2x768, .i1⟩
  | .hbm, ⟨116, _⟩ => ⟨S_, .f32⟩
  | .hbm, ⟨117, _⟩ => ⟨S8192x2x768, .f32⟩
  | .hbm, ⟨118, _⟩ => ⟨S8192x2x768, .f32⟩
  | .hbm, ⟨119, _⟩ => ⟨S8192x2x1, .f32⟩
  | .hbm, ⟨120, _⟩ => ⟨S8192x2x768, .f32⟩
  | .hbm, ⟨121, _⟩ => ⟨S8192x2x768, .f32⟩
  | .hbm, ⟨122, _⟩ => ⟨S_, .f32⟩
  | .hbm, ⟨123, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_values : Ref sig .tc := ⟨.hbm, 27, rfl⟩
abbrev main_indices : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_cst_3 : Ref sig .tc := ⟨.hbm, 62, rfl⟩
abbrev main_call0_v13 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_5 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_6 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_7 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_call1_c : Ref sig .tc := ⟨.hbm, 97, rfl⟩
abbrev main_call1_v0 : Ref sig .tc := ⟨.hbm, 98, rfl⟩
abbrev main_call1_v1 : Ref sig .tc := ⟨.hbm, 99, rfl⟩
abbrev main_call1_c_0 : Ref sig .tc := ⟨.hbm, 100, rfl⟩
abbrev main_call1_v2 : Ref sig .tc := ⟨.hbm, 101, rfl⟩
abbrev main_call1_v3 : Ref sig .tc := ⟨.hbm, 102, rfl⟩
abbrev main_call1_v4 : Ref sig .tc := ⟨.hbm, 103, rfl⟩
abbrev main_call1_c_1 : Ref sig .tc := ⟨.hbm, 104, rfl⟩
abbrev main_call1_c_2 : Ref sig .tc := ⟨.hbm, 105, rfl⟩
abbrev main_call1_v5 : Ref sig .tc := ⟨.hbm, 106, rfl⟩
abbrev main_call1_v6 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_call1_c_3 : Ref sig .tc := ⟨.hbm, 112, rfl⟩
abbrev main_call1_v11 : Ref sig .tc := ⟨.hbm, 113, rfl⟩
abbrev main_call1_v12 : Ref sig .tc := ⟨.hbm, 114, rfl⟩
abbrev main_call1_v13 : Ref sig .tc := ⟨.hbm, 115, rfl⟩
abbrev main_call1_cst : Ref sig .tc := ⟨.hbm, 116, rfl⟩
abbrev main_call1_v14 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_cst_8 : Ref sig .tc := ⟨.hbm, 122, rfl⟩
abbrev main_v58 : Ref sig .tc := ⟨.hbm, 123, rfl⟩

abbrev nD : Nat := 1
abbrev τ : Topo := Topo.v7x

variable {F : FTy → Type} [FloatOps F]
-- ==== Proof.PI.Body.lean ====
/-
  The kernel body's two runs. At a preparing point the body copies two experts' weights into the carried scratch (both
  layers' weights rounded, and the first layer's row means); at a computing point it gates the point's rows of the input,
  fills the scratch of weighted activations one expert's stripe at a time and multiplies it by the second layer's weights.
-/
module

public import proofs.«01_k».proof.Proof.Gen.KernelIdeal.Frame
public import proofs.«01_k».proof.Proof.Gen.KernelIdeal.Skeleton
public import Idealize.ShloMosaic.Lib.VecWindow
public import Idealize.ShloMosaic.Lib.Pipeline.TableIdle

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts

variable {F : FTy → Type} [FloatOps F] [Named F]

local notation "𝕄" => MT nD τ sig Unit (Elt F) ℕ (UR sig nD τ) ℕ

/-! ## The preparing point -/

/-- The two experts' blocks of a staged weight window. -/
abbrev rE0 : Rect S2x768x768 := Rect.unit (s := S2x768x768) ![0, 0, 0] S1x768x768.size inb_S2x768x768_S1x768x768_0_0_0
abbrev rE1 : Rect S2x768x768 := Rect.unit (s := S2x768x768) ![1, 0, 0] S1x768x768.size inb_S2x768x768_S1x768x768_1_0_0

/-- The rounded first-layer weights after a preparing point: two experts' blocks put. -/
def prep7 (i : grid0.Coords) (x3 : Vec F S2x768x768 .f32) (X7 : Vec F S8x768x768 .bf16) : Vec F S8x768x768 .bf16 :=
  VecWindow.put (VecWindow.put X7 (k0_off1 i 0#32) S1x768x768.size (k0_pay7 (View.ld x3 rE0)))
    (k0_off1 i 1#32) S1x768x768.size (k0_pay1 (k0_pay11 (View.ld x3 rE1)))

/-- The rounded second-layer weights after a preparing point: two experts' rows put. -/
def prep8 (i : grid0.Coords) (x4 : Vec F S2x768x768 .f32) (X8 : Vec F S6144x768 .bf16) : Vec F S6144x768 .bf16 :=
  VecWindow.put (VecWindow.put X8 (k0_off2 i 0#32) S768x768.size (k0_pay8 (View.ld x4 rE0)))
    (k0_off2 i 1#32) S768x768.size (k0_pay2 (View.ld x4 rE1))

/-- The first-layer weights' row means after a preparing point: two experts' rows put. -/
def prep9 (i : grid0.Coords) (x3 : Vec F S2x768x768 .f32) (X9 : Vec F S8x768 .f32) : Vec F S8x768 .f32 :=
  VecWindow.put (VecWindow.put X9 (k0_off3 i 0#32) S1x768.size (k0_pay9 (View.ld x3 rE0)))
    (k0_off3 i 1#32) S1x768.size (k0_pay3 (k0_pay10 (View.ld x3 rE1)))

/-- The body at a preparing point, from the weights' windows and the carried scratch at read contents. -/
theorem prep_run (c : Dev nD) (E : Set ℕ) (i : grid0.Coords) (hp : k0_cond1 i = 1#1) (hc : ¬ k0_cond2 i = 1#1)
    (arg1 : Memref sig .tc .vmem S512x768 .f32) (harg1 : arg1.IsWhole) (arg2 : Memref sig .tc .vmem S768x8 .f32) (harg2 : arg2.IsWhole)
    (arg3 : Memref sig .tc .vmem S1x8 .f32) (harg3 : arg3.IsWhole) (arg4 : Memref sig .tc .vmem S2x768x768 .f32) (harg4 : arg4.IsWhole)
    (arg5 : Memref sig .tc .vmem S2x768x768 .f32) (harg5 : arg5.IsWhole) (arg6 : Memref sig .tc .vmem S512x768 .f32) (harg6 : arg6.IsWhole)
    (arg7 : Memref sig .tc .vmem S8x768x768 .bf16) (harg7 : arg7.IsWhole) (arg8 : Memref sig .tc .vmem S6144x768 .bf16) (harg8 : arg8.IsWhole)
    (arg9 : Memref sig .tc .vmem S8x768 .f32) (harg9 : arg9.IsWhole) (arg10 : Memref sig .tc .vmem S512x6144 .bf16) (harg10 : arg10.IsWhole)
    (x3 x4 : Vec F S2x768x768 .f32) (X7 : Vec F S8x768x768 .bf16) (X8 : Vec F S6144x768 .bf16) (X9 : Vec F S8x768 .f32) (K : PUnit → sProp 𝕄) :
    iprop(owns (c : Thread nD τ) arg4 fullShare x3 ∗ owns (c : Thread nD τ) arg5 fullShare x4 ∗ owns (c : Thread nD τ) arg7 fullShare X7
        ∗ owns (c : Thread nD τ) arg8 fullShare X8 ∗ owns (c : Thread nD τ) arg9 fullShare X9
        ∗ (iprop(owns (c : Thread nD τ) arg4 fullShare x3 ∗ owns (c : Thread nD τ) arg5 fullShare x4
            ∗ owns (c : Thread nD τ) arg7 fullShare (prep7 i x3 X7) ∗ owns (c : Thread nD τ) arg8 fullShare (prep8 i x4 X8)
            ∗ owns (c : Thread nD τ) arg9 fullShare (prep9 i x3 X9)) -∗ K ⟨⟩))
      ⊢ wp frame (wpE (defs₀ (F := F)) Variants.none c none) E
          (cc0__moe_body i arg1 harg1 arg2 harg2 arg3 harg3 arg4 harg4 arg5 harg5 arg6 harg6 arg7 harg7 arg8 harg8 arg9 harg9 arg10 harg10) K := by
  simp only [cc0__moe_body_eq_skeleton, k0_part1_eq_skeleton]; unfold cc0__moe_body_skel
  rw [dif_pos hp, dif_neg hc]
  simp only [k0_part1_eq_skeleton]; unfold k0_part1_skel
  unfold owns
  iintro ⟨⟨%f4, %hf4, H4⟩, ⟨%f5, %hf5, H5⟩, ⟨%f7, %hf7, H7⟩, ⟨%f8, %hf8, H8⟩, ⟨%f9, %hf9, H9⟩, Hk⟩
  subst hf4 hf5 hf7 hf8 hf9
  sl_exec
  sl_step
  iapply Hk
  isplitl [H4]
  · iexists f4; isplitr; · ipureintro; rfl
    iexact H4
  isplitl [H5]
  · iexists f5; isplitr; · ipureintro; rfl
    iexact H5
  isplitl [H7]
  · iexists _; isplitr
    swap; · iexact H7
    ipureintro
    rw [View.read_writes_cons_put _ _ _ _ _ rfl, View.read_writes_cons_put _ _ _ _ _ rfl]; rfl
  isplitl [H8]
  · iexists _; isplitr
    swap; · iexact H8
    ipureintro
    rw [View.read_writes_cons_put _ _ _ _ _ rfl, View.read_writes_cons_put _ _ _ _ _ rfl]; rfl
  iexists _; isplitr
  swap; · iexact H9
  ipureintro
  rw [View.read_writes_cons_put _ _ _ _ _ rfl, View.read_writes_cons_put _ _ _ _ _ rfl]; rfl

/-! ## The computing point -/

/-- One column of the gate's arrays, for any expert. -/
theorem slices_lane : ∀ e : Fin 8, S512x8.Slices ![0, e.val] S512x1
  | 0 => slices_S512x8_o0_0_S512x1
  | 1 => slices_S512x8_o0_1_S512x1
  | 2 => slices_S512x8_o0_2_S512x1
  | 3 => slices_S512x8_o0_3_S512x1
  | 4 => slices_S512x8_o0_4_S512x1
  | 5 => slices_S512x8_o0_5_S512x1
  | 6 => slices_S512x8_o0_6_S512x1
  | 7 => slices_S512x8_o0_7_S512x1

/-- Expert `e`'s stripe of weighted activations, from the gate's weights, the rounded rows, the rows' means and the
    expert's rounded first-layer weights. -/
def stripe (e : Fin 8) (ws : FVec F S512x8 .f32) (xb : FVec F S512x768 .bf16) (mu : FVec F S512x8 .f32) (w : Vec F S1x768x768 .bf16) :
    FVec F S512x768 .bf16 :=
  have v92 : FVec F S768x768 .bf16 := shapeCast S768x768 w shapeCasts_S1x768x768_S768x768
  have cst_33 : FVec F S512x768 .f32 := constant S512x768 .f32 0x00000000#32
  have v93 : FVec F S512x768 .f32 := matmul dot_S512x768_S768x768_S512x768_1_0_0_1_n_n none xb v92 cst_33
  have v94 : FVec F S512x768 .f32 := mulf v93 v93
  have v95 : FVec F S512 .f32 := multiReduction .add [1] S512 v94 0x00000000#32 reduces_S512x768_S512 (.inl rfl) rfl
  have v96 : FVec F S512x1 .f32 := shapeCast S512x1 v95 shapeCasts_S512_S512x1
  have v97 : FVec F S512x1 .f32 := extractStridedSlice S512x1 ![0, e.val] mu (slices_lane e)
  have cst_35 : F .f32 := Named.named κ "inv_h" 0x3AAAAAAB#32
  have v98 : FVec F S512x1 .f32 := broadcast S512x1 cst_35
  have v99 : FVec F S512x1 .f32 := mulf v96 v98
  have v100 : FVec F S512x1 .f32 := mulf v97 v97
  have v101 : FVec F S512x1 .f32 := subf v99 v100
  have cst_36 : F .f32 := Scalar.ofBits .f32 0x3727C5AC#32
  have v102 : FVec F S512x1 .f32 := broadcast S512x1 cst_36
  have v103 : FVec F S512x1 .f32 := addf v101 v102
  have v104 : FVec F S512x1 .f32 := rsqrt v103
  have v105 : FVec F S512x768 .f32 := broadcastTo S512x768 v97 broadcasts_S512x1_S512x768
  have v106 : FVec F S512x768 .f32 := subf v93 v105
  have cst_37 : F .f32 := Scalar.ofBits .f32 0x3F3504F3#32
  have v107 : FVec F S512x1 .f32 := broadcast S512x1 cst_37
  have v108 : FVec F S512x1 .f32 := mulf v104 v107
  have v109 : FVec F S512x768 .f32 := broadcastTo S512x768 v108 broadcasts_S512x1_S512x768
  have v110 : FVec F S512x768 .f32 := mulf v106 v109
  have cst_38 : F .f32 := Scalar.ofBits .f32 0x3F000000#32
  have v111 : FVec F S512x1 .f32 := broadcast S512x1 cst_38
  have v112 : FVec F S512x1 .f32 := mulf v111 v104
  have v113 : FVec F S512x1 .f32 := extractStridedSlice S512x1 ![0, e.val] ws (slices_lane e)
  have v114 : FVec F S512x1 .f32 := mulf v112 v113
  have v115 : FVec F S512x768 .f32 := broadcastTo S512x768 v114 broadcasts_S512x1_S512x768
  have v116 : FVec F S512x768 .f32 := mulf v106 v115
  have v117 : FVec F S512x768 .f32 := erf v110
  have cst_39 : F .f32 := Scalar.ofBits .f32 0x3F800000#32
  have v118 : FVec F S512x768 .f32 := broadcast S512x768 cst_39
  have v119 : FVec F S512x768 .f32 := addf v118 v117
  have v120 : FVec F S512x768 .f32 := mulf v116 v119
  have v121 : FVec F S512x768 .bf16 := truncf .bf16 v120 bitsLt_bf16_f32
  have v124 : FVec F S512x768 .bf16 := shapeCast S512x768 v121 shapeCasts_S512x768_S512x768
  v124

/-- Expert `e`'s block of the carried first-layer weights, and its stripe's place in the scratch. -/
theorem inb_expert (e : Fin 8) : ∀ a, (![e.val, 0, 0] : Fin 3 → Nat) a + S1x768x768.size a ≤ S8x768x768.size a := fun a => by
  fin_cases a
  · show e.val + 1 ≤ 8; omega
  · show 0 + 768 ≤ 768; omega
  · show 0 + 768 ≤ 768; omega

theorem inb_stripe (e : Fin 8) : ∀ a, (![0, 768 * e.val] : Fin 2 → Nat) a + S512x768.size a ≤ S512x6144.size a := fun a => by
  fin_cases a
  · show 0 + 512 ≤ 512; omega
  · show 768 * e.val + 768 ≤ 6144; omega

abbrev rW (e : Fin 8) : Rect S8x768x768 := Rect.unit (s := S8x768x768) ![e.val, 0, 0] S1x768x768.size (inb_expert e)
abbrev rG (e : Fin 8) : Rect S512x6144 := Rect.unit (s := S512x6144) ![0, 768 * e.val] S512x768.size (inb_stripe e)

/-- The gate's weights of a block of rows. -/
def gate (x0 : Vec F S512x768 .f32) (x1 : Vec F S768x8 .f32) (x2 : Vec F S1x8 .f32) : FVec F S512x8 .f32 :=
  k0_pay19 (k0_pay12 x0 x1 x2) (k0_pay13 x0 x1 x2) (k0_pay16 x0 x1 x2) (k0_pay17 x0 x1 x2) (k0_pay18 (F := F))

/-- Expert `e`'s stripe from the staged blocks and the carried scratch. -/
def stripeOf (x0 : Vec F S512x768 .f32) (x1 : Vec F S768x8 .f32) (x2 : Vec F S1x8 .f32) (X7 : Vec F S8x768x768 .bf16) (X9 : Vec F S8x768 .f32)
    (e : Fin 8) : FVec F S512x768 .bf16 :=
  stripe e (gate x0 x1 x2) (k0_pay20 x0) (k0_pay21 x0 X9) (View.ld X7 (rW e))

/-- The eight stripes side by side. -/
def acts (x0 : Vec F S512x768 .f32) (x1 : Vec F S768x8 .f32) (x2 : Vec F S1x8 .f32) (X7 : Vec F S8x768x768 .bf16) (X9 : Vec F S8x768 .f32) :
    Vec F S512x6144 .bf16 := fun y =>
  stripeOf x0 x1 x2 X7 X9 ⟨(y 1).val / 768, Nat.div_lt_of_lt_mul (y 1).isLt⟩
    (fun | 0 => y 0 | 1 => ⟨(y 1).val % 768, Nat.mod_lt _ (by decide)⟩)

/-- The block of the result a computing point leaves. -/
def outBlk (x0 : Vec F S512x768 .f32) (x1 : Vec F S768x8 .f32) (x2 : Vec F S1x8 .f32) (X7 : Vec F S8x768x768 .bf16)
    (X8 : Vec F S6144x768 .bf16) (X9 : Vec F S8x768 .f32) : Vec F S512x768 .f32 :=
  k0_pay5 (acts x0 x1 x2 X7 X9) X8

/-! Each stripe's payload, spelt in pieces by the body's parts, is the one stripe at its expert. -/
section
variable (ws : FVec F S512x8 .f32) (xb : FVec F S512x768 .bf16) (mu : FVec F S512x8 .f32) (w : Vec F S1x768x768 .bf16)
theorem stripe_1 : k0_pay23 ws xb mu w = stripe 1 ws xb mu w := rfl
theorem stripe_2 : k0_pay27 ws (k0_pay24 xb w) (k0_pay25 mu) (k0_pay26 xb w) = stripe 2 ws xb mu w := rfl
theorem stripe_3 : k0_pay33 ws (k0_pay30 xb mu w) (k0_pay31 xb mu w) (k0_pay32 xb mu w) = stripe 3 ws xb mu w := rfl
theorem stripe_4 : k0_pay35 (k0_pay34 ws xb mu w) = stripe 4 ws xb mu w := rfl
theorem stripe_5 : k0_pay36 ws xb mu w = stripe 5 ws xb mu w := rfl
theorem stripe_6 : k0_pay38 ws mu (k0_pay37 xb w) = stripe 6 ws xb mu w := rfl
theorem stripe_7 : k0_pay4 ws (k0_pay39 xb w) (k0_pay40 mu) (k0_pay41 xb mu w) = stripe 7 ws xb mu w := rfl
theorem stripe_0 (v6 : Vec F S512x768 .f32) (v54 : Vec F S8x768 .f32) (v21 : FVec F S512x8 .f32) (v24) (v36) (v47) (v48) :
    k0_pay22 v6 v21 v24 v36 v47 v48 v54 w = stripe 0 (k0_pay19 v21 v24 v36 v47 v48) (k0_pay20 v6) (k0_pay21 v6 v54) w := rfl
end

/-- The stripes as stored: the last one first. -/
def stripes (x0 : Vec F S512x768 .f32) (x1 : Vec F S768x8 .f32) (x2 : Vec F S1x8 .f32) (X7 : Vec F S8x768x768 .bf16) (X9 : Vec F S8x768 .f32) :
    List (View.Piece (Elt F) S512x6144 .bf16) :=
  [7, 6, 5, 4, 3, 2, 1, 0].map fun e => ⟨rG e, stripeOf x0 x1 x2 X7 X9 e⟩

/-- The whole of the scratch read after the eight stores is the eight stripes side by side, whatever it held. -/
theorem read_stripes {sp : Space} (v : View sig .tc sp S512x6144 .bf16) (f : v.ty.Contents (Elt F))
    (x0 : Vec F S512x768 .f32) (x1 : Vec F S768x8 .f32) (x2 : Vec F S1x8 .f32) (X7 : Vec F S8x768x768 .bf16) (X9 : Vec F S8x768 .f32) :
    v.read (Elt F) (v.writes (Elt F) f (stripes x0 x1 x2 X7 X9)) = acts x0 x1 x2 X7 X9 := by
  funext y
  refine View.read_writes_apply_of_pieces v f (acts x0 x1 x2 X7 X9) _ ?_ y ?_
  · intro p hp x
    obtain ⟨e, -, rfl⟩ := List.mem_map.mp hp
    have h1 : (x 1).val < 768 := (x 1).isLt
    have he : (⟨((rG e).emb x 1).val / 768, Nat.div_lt_of_lt_mul ((rG e).emb x 1).isLt⟩ : Fin 8) = e :=
      Fin.ext (by show (768 * e.val + 1 * (x 1).val) / 768 = e.val; omega)
    show stripeOf x0 x1 x2 X7 X9 e x = stripeOf x0 x1 x2 X7 X9 _ _
    rw [he]
    congr 1
    funext a
    match a with
    | 0 => exact Fin.ext (by show (x 0).val = 0 + 1 * (x 0).val; omega)
    | 1 => exact Fin.ext (by show (x 1).val = (768 * e.val + 1 * (x 1).val) % 768; omega)
  · have h1 : (y 1).val < 6144 := (y 1).isLt
    have h0 : (y 0).val < 512 := (y 0).isLt
    have hm : ∀ e : Fin 8, e ∈ ([7, 6, 5, 4, 3, 2, 1, 0] : List (Fin 8)) := by decide
    have he : (y 1).val / 768 < 8 := by omega
    refine ⟨_, List.mem_map.mpr ⟨⟨(y 1).val / 768, he⟩, hm _, rfl⟩, (Rect.mem_set_unit (inb := inb_stripe ⟨(y 1).val / 768, he⟩)).mpr fun a => ?_⟩
    match a with
    | 0 => exact ⟨Nat.zero_le _, by show (y 0).val < 0 + 512; omega⟩
    | 1 => exact ⟨by show 768 * ((y 1).val / 768) ≤ (y 1).val; omega, by show (y 1).val < 768 * ((y 1).val / 768) + 768; omega⟩

/-- The body at a computing point. -/
theorem comp_run (c : Dev nD) (E : Set ℕ) (i : grid0.Coords) (hp : ¬ k0_cond1 i = 1#1) (hc : k0_cond2 i = 1#1)
    (arg1 : Memref sig .tc .vmem S512x768 .f32) (harg1 : arg1.IsWhole) (arg2 : Memref sig .tc .vmem S768x8 .f32) (harg2 : arg2.IsWhole)
    (arg3 : Memref sig .tc .vmem S1x8 .f32) (harg3 : arg3.IsWhole) (arg4 : Memref sig .tc .vmem S2x768x768 .f32) (harg4 : arg4.IsWhole)
    (arg5 : Memref sig .tc .vmem S2x768x768 .f32) (harg5 : arg5.IsWhole) (arg6 : Memref sig .tc .vmem S512x768 .f32) (harg6 : arg6.IsWhole)
    (arg7 : Memref sig .tc .vmem S8x768x768 .bf16) (harg7 : arg7.IsWhole) (arg8 : Memref sig .tc .vmem S6144x768 .bf16) (harg8 : arg8.IsWhole)
    (arg9 : Memref sig .tc .vmem S8x768 .f32) (harg9 : arg9.IsWhole) (arg10 : Memref sig .tc .vmem S512x6144 .bf16) (harg10 : arg10.IsWhole)
    (x0 : Vec F S512x768 .f32) (x1 : Vec F S768x8 .f32) (x2 : Vec F S1x8 .f32) (X7 : Vec F S8x768x768 .bf16) (X8 : Vec F S6144x768 .bf16)
    (X9 : Vec F S8x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg6 fullShare d)
        ∗ owns (c : Thread nD τ) arg7 fullShare X7 ∗ owns (c : Thread nD τ) arg8 fullShare X8 ∗ owns (c : Thread nD τ) arg9 fullShare X9
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg6 fullShare (outBlk x0 x1 x2 X7 X8 X9)
            ∗ owns (c : Thread nD τ) arg7 fullShare X7 ∗ owns (c : Thread nD τ) arg8 fullShare X8 ∗ owns (c : Thread nD τ) arg9 fullShare X9
            ∗ (∃ d, owns (c : Thread nD τ) arg10 fullShare d)) -∗ K ⟨⟩))
      ⊢ wp frame (wpE (defs₀ (F := F)) Variants.none c none) E
          (cc0__moe_body i arg1 harg1 arg2 harg2 arg3 harg3 arg4 harg4 arg5 harg5 arg6 harg6 arg7 harg7 arg8 harg8 arg9 harg9 arg10 harg10) K := by
  simp only [cc0__moe_body_eq_skeleton]; unfold cc0__moe_body_skel
  rw [dif_neg hp, dif_pos hc]
  simp only [k0_part2_eq_skeleton, k0_part3_eq_skeleton, k0_part4_eq_skeleton, k0_part5_eq_skeleton, k0_part6_eq_skeleton,
    k0_part7_eq_skeleton, k0_part8_eq_skeleton]
  unfold k0_part2_skel k0_part3_skel k0_part4_skel k0_part5_skel k0_part6_skel k0_part7_skel k0_part8_skel
  unfold owns
  iintro ⟨⟨%f1, %hf1, H1⟩, ⟨%f2, %hf2, H2⟩, ⟨%f3, %hf3, H3⟩, ⟨%d6, %f6, -, H6⟩, ⟨%f7, %hf7, H7⟩, ⟨%f8, %hf8, H8⟩, ⟨%f9, %hf9, H9⟩, ⟨%d10, %f10, -, H10⟩, Hk⟩
  subst hf1 hf2 hf3 hf7 hf8 hf9
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_full, View.readAt_full]
    delta comp_run.sl.v329 comp_run.sl.H10_8
    dsimp only
    have e1 : View.readAt (Elt F) arg1.view (Rect.unit ![0, 0] ![512, 768] inb_S512x768_S512x768_0_0).toLoadRect f1 = View.read (Elt F) arg1.view f1 :=
      View.readAt_full _ _ _
    have e2 : View.readAt (Elt F) arg2.view (Rect.unit ![0, 0] ![768, 8] inb_S768x8_S768x8_0_0).toLoadRect f2 = View.read (Elt F) arg2.view f2 :=
      View.readAt_full _ _ _
    have e3 : View.readAt (Elt F) arg3.view (Rect.unit ![0, 0] ![1, 8] inb_S1x8_S1x8_0_0).toLoadRect f3 = View.read (Elt F) arg3.view f3 :=
      View.readAt_full _ _ _
    have e9 : View.readAt (Elt F) arg9.view (Rect.unit ![0, 0] ![8, 768] inb_S8x768_S8x768_0_0).toLoadRect f9 = View.read (Elt F) arg9.view f9 :=
      View.readAt_full _ _ _
    simp only [e1, e2, e3, e9, stripe_0, stripe_1, stripe_2, stripe_3, stripe_4, stripe_5, stripe_6, stripe_7]
    exact congrArg (fun z => k0_pay5 z _) ((View.readAt_full arg10.view _ inb_S512x6144_S512x6144_0_0).trans
      (read_stripes arg10.view arg10.view.junk (View.read (Elt F) arg1.view f1) (View.read (Elt F) arg2.view f2) (View.read (Elt F) arg3.view f3)
        (View.read (Elt F) arg7.view f7) (View.read (Elt F) arg9.view f9)))
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; iexists _; isplitr
  swap; · iexact H10
  ipureintro; rfl

end Cert.Proof.PI

end
-- ==== Proof.PI.Frame.lean ====
/-
  The kernel's run: what the carried scratch holds before each grid point, the body's obligation at every point, the launch,
  and the frame.
-/
module

public import proofs.«01_k».proof.Proof.PI.Body
public import Idealize.ShloMosaic.Lib.Claim

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid in closed form -/

theorem cond1_of_lt : ∀ t : Fin cfg0.N, t.val < 4 → k0_cond1 (grid0.coords t) = 1#1 :=
  (by decide +kernel : ∀ t : Fin grid0.N, t.val < 4 → k0_cond1 (grid0.coords t) = 1#1)
theorem cond1_of_ge : ∀ t : Fin cfg0.N, 4 ≤ t.val → ¬ k0_cond1 (grid0.coords t) = 1#1 :=
  (by decide +kernel : ∀ t : Fin grid0.N, 4 ≤ t.val → ¬ k0_cond1 (grid0.coords t) = 1#1)
theorem cond2_of_lt : ∀ t : Fin cfg0.N, t.val < 4 → ¬ k0_cond2 (grid0.coords t) = 1#1 :=
  (by decide +kernel : ∀ t : Fin grid0.N, t.val < 4 → ¬ k0_cond2 (grid0.coords t) = 1#1)
theorem cond2_of_ge : ∀ t : Fin cfg0.N, 4 ≤ t.val → k0_cond2 (grid0.coords t) = 1#1 :=
  (by decide +kernel : ∀ t : Fin grid0.N, 4 ≤ t.val → k0_cond2 (grid0.coords t) = 1#1)
theorem flush5_of_lt : ∀ t : Fin cfg0.N, t.val < 4 → (cfg0.win 5).flush t = false :=
  (by decide +kernel : ∀ t : Fin grid0.N, t.val < 4 → win0_5.flush t = false)

/-- Where a preparing point puts its two experts. -/
theorem offs_of_lt : ∀ t : Fin cfg0.N, t.val < 4 →
    k0_off1 (grid0.coords t) 0#32 = ![2 * t.val, 0, 0] ∧ k0_off1 (grid0.coords t) 1#32 = ![2 * t.val + 1, 0, 0]
    ∧ k0_off2 (grid0.coords t) 0#32 = ![1536 * t.val, 0] ∧ k0_off2 (grid0.coords t) 1#32 = ![1536 * t.val + 768, 0]
    ∧ k0_off3 (grid0.coords t) 0#32 = ![2 * t.val, 0] ∧ k0_off3 (grid0.coords t) 1#32 = ![2 * t.val + 1, 0] :=
  (by decide +kernel : ∀ t : Fin grid0.N, t.val < 4 →
    k0_off1 (grid0.coords t) 0#32 = ![2 * t.val, 0, 0] ∧ k0_off1 (grid0.coords t) 1#32 = ![2 * t.val + 1, 0, 0]
    ∧ k0_off2 (grid0.coords t) 0#32 = ![1536 * t.val, 0] ∧ k0_off2 (grid0.coords t) 1#32 = ![1536 * t.val + 768, 0]
    ∧ k0_off3 (grid0.coords t) 0#32 = ![2 * t.val, 0] ∧ k0_off3 (grid0.coords t) 1#32 = ![2 * t.val + 1, 0])

/-- The point that prepares expert `e`. -/
def prepPt (e : Fin 8) : Fin cfg0.N := ⟨e.val / 2, Nat.lt_of_lt_of_le (by omega : e.val / 2 < 4) (by decide : 4 ≤ grid0.N)⟩

/-! ## What the carried scratch ends at -/

/-- Expert `e`'s rounded first-layer weights, its rounded second-layer weights and its first layer's row means, as its preparing
    point stores them: the even experts from a staged window's first block, the odd ones from its second. -/
def put7 (c : Dev nD) (e : Fin 8) : Vec F S1x768x768 .bf16 :=
  if e.val % 2 = 0 then k0_pay7 (View.ld (iblk m c 3 (prepPt e)) rE0) else k0_pay1 (k0_pay11 (View.ld (iblk m c 3 (prepPt e)) rE1))
def put8 (c : Dev nD) (e : Fin 8) : Vec F S768x768 .bf16 :=
  if e.val % 2 = 0 then k0_pay8 (View.ld (iblk m c 4 (prepPt e)) rE0) else k0_pay2 (View.ld (iblk m c 4 (prepPt e)) rE1)
def put9 (c : Dev nD) (e : Fin 8) : Vec F S1x768 .f32 :=
  if e.val % 2 = 0 then k0_pay9 (View.ld (iblk m c 3 (prepPt e)) rE0) else k0_pay3 (k0_pay10 (View.ld (iblk m c 3 (prepPt e)) rE1))

def T7 (c : Dev nD) : Vec F S8x768x768 .bf16 := fun y => put7 m c (y 0) (fun | 0 => (0 : Fin 1) | 1 => y 1 | 2 => y 2)
def T8 (c : Dev nD) : Vec F S6144x768 .bf16 := fun y =>
  put8 m c ⟨(y 0).val / 768, Nat.div_lt_of_lt_mul (y 0).isLt⟩ (fun | 0 => ⟨(y 0).val % 768, Nat.mod_lt _ (by decide)⟩ | 1 => y 1)
def T9 (c : Dev nD) : Vec F S8x768 .f32 := fun y => put9 m c (y 0) (fun | 0 => (0 : Fin 1) | 1 => y 1)

/-- Before point `n` the experts below `2 * n` are in place. -/
def Good (c : Dev nD) (n : Nat) (X7 : Vec F S8x768x768 .bf16) (X8 : Vec F S6144x768 .bf16) (X9 : Vec F S8x768 .f32) : Prop :=
  (∀ y, (y 0).val < 2 * n → X7 y = T7 m c y) ∧ (∀ y, (y 0).val < 1536 * n → X8 y = T8 m c y) ∧ (∀ y, (y 0).val < 2 * n → X9 y = T9 m c y)

/-- Once four points have prepared, every expert is. -/
theorem Good.eq {c : Dev nD} {n : Nat} {X7 : Vec F S8x768x768 .bf16} {X8 : Vec F S6144x768 .bf16} {X9 : Vec F S8x768 .f32}
    (h : Good m c n X7 X8 X9) (hn : 4 ≤ n) : X7 = T7 m c ∧ X8 = T8 m c ∧ X9 = T9 m c :=
  ⟨funext fun y => h.1 y (by have : (y 0).val < 8 := (y 0).isLt; omega),
   funext fun y => h.2.1 y (by have : (y 0).val < 6144 := (y 0).isLt; omega),
   funext fun y => h.2.2 y (by have : (y 0).val < 8 := (y 0).isLt; omega)⟩

theorem Good.late {c : Dev nD} {n : Nat} (hn : 4 ≤ n) : Good m c n (T7 m c) (T8 m c) (T9 m c) :=
  ⟨fun _ _ => rfl, fun _ _ => rfl, fun _ _ => rfl⟩

theorem prepPt_eq (t : Fin cfg0.N) (e : Fin 8) (h : e.val / 2 = t.val) : prepPt e = t := Fin.ext h

theorem put7_even (c : Dev nD) (t : Fin cfg0.N) (e : Fin 8) (h : e.val = 2 * t.val) :
    put7 m c e = k0_pay7 (View.ld (iblk m c 3 t) rE0) := by
  unfold put7; rw [if_pos (by omega), prepPt_eq t e (by omega)]
theorem put7_odd (c : Dev nD) (t : Fin cfg0.N) (e : Fin 8) (h : e.val = 2 * t.val + 1) :
    put7 m c e = k0_pay1 (k0_pay11 (View.ld (iblk m c 3 t) rE1)) := by
  unfold put7; rw [if_neg (by omega), prepPt_eq t e (by omega)]
theorem put8_even (c : Dev nD) (t : Fin cfg0.N) (e : Fin 8) (h : e.val = 2 * t.val) :
    put8 m c e = k0_pay8 (View.ld (iblk m c 4 t) rE0) := by
  unfold put8; rw [if_pos (by omega), prepPt_eq t e (by omega)]
theorem put8_odd (c : Dev nD) (t : Fin cfg0.N) (e : Fin 8) (h : e.val = 2 * t.val + 1) :
    put8 m c e = k0_pay2 (View.ld (iblk m c 4 t) rE1) := by
  unfold put8; rw [if_neg (by omega), prepPt_eq t e (by omega)]
theorem put9_even (c : Dev nD) (t : Fin cfg0.N) (e : Fin 8) (h : e.val = 2 * t.val) :
    put9 m c e = k0_pay9 (View.ld (iblk m c 3 t) rE0) := by
  unfold put9; rw [if_pos (by omega), prepPt_eq t e (by omega)]
theorem put9_odd (c : Dev nD) (t : Fin cfg0.N) (e : Fin 8) (h : e.val = 2 * t.val + 1) :
    put9 m c e = k0_pay3 (k0_pay10 (View.ld (iblk m c 3 t) rE1)) := by
  unfold put9; rw [if_neg (by omega), prepPt_eq t e (by omega)]

/-- Two rows of blocks put at `o` and `o + b`: below `o` nothing changed, then the first, then the second. -/
theorem prep7_eq (c : Dev nD) (t : Fin cfg0.N) (ht : t.val < 4) (X7 : Vec F S8x768x768 .bf16)
    (hX : ∀ y, (y 0).val < 2 * t.val → X7 y = T7 m c y) (y : S8x768x768.Idx) (hy : (y 0).val < 2 * (t.val + 1)) :
    prep7 (grid0.coords t) (iblk m c 3 t) X7 y = T7 m c y := by
  obtain ⟨h0, h1, -⟩ := offs_of_lt t ht
  have y1 : (y 1).val < 768 := (y 1).isLt
  have y2 : (y 2).val < 768 := (y 2).isLt
  unfold prep7 T7
  rw [h0, h1]
  by_cases e1 : (y 0).val = 2 * t.val + 1
  · have hc : ∀ a, (![2 * t.val + 1, 0, 0] : Fin 3 → Nat) a ≤ (y a).val ∧ (y a).val < (![2 * t.val + 1, 0, 0] : Fin 3 → Nat) a + S1x768x768.size a := fun a =>
      match a with
      | 0 => ⟨by show 2 * t.val + 1 ≤ (y 0).val; omega, by show (y 0).val < 2 * t.val + 1 + 1; omega⟩
      | 1 => ⟨Nat.zero_le _, by show (y 1).val < 0 + 768; omega⟩
      | 2 => ⟨Nat.zero_le _, by show (y 2).val < 0 + 768; omega⟩
    unfold VecWindow.put
    rw [dif_pos hc, put7_odd m c t (y 0) e1]
    refine congrArg _ (funext fun a => Fin.ext ?_)
    match a with
    | 0 => show (y 0).val - (2 * t.val + 1) = 0; omega
    | 1 => show (y 1).val - 0 = (y 1).val; omega
    | 2 => show (y 2).val - 0 = (y 2).val; omega
  · have hn : ¬ ∀ a, (![2 * t.val + 1, 0, 0] : Fin 3 → Nat) a ≤ (y a).val ∧ (y a).val < (![2 * t.val + 1, 0, 0] : Fin 3 → Nat) a + S1x768x768.size a := fun h => by
      have := (h 0).1; change 2 * t.val + 1 ≤ (y 0).val at this; omega
    by_cases e0 : (y 0).val = 2 * t.val
    · have hc : ∀ a, (![2 * t.val, 0, 0] : Fin 3 → Nat) a ≤ (y a).val ∧ (y a).val < (![2 * t.val, 0, 0] : Fin 3 → Nat) a + S1x768x768.size a := fun a =>
        match a with
        | 0 => ⟨by show 2 * t.val ≤ (y 0).val; omega, by show (y 0).val < 2 * t.val + 1; omega⟩
        | 1 => ⟨Nat.zero_le _, by show (y 1).val < 0 + 768; omega⟩
        | 2 => ⟨Nat.zero_le _, by show (y 2).val < 0 + 768; omega⟩
      unfold VecWindow.put
      rw [dif_neg hn, dif_pos hc, put7_even m c t (y 0) e0]
      refine congrArg _ (funext fun a => Fin.ext ?_)
      match a with
      | 0 => show (y 0).val - 2 * t.val = 0; omega
      | 1 => show (y 1).val - 0 = (y 1).val; omega
      | 2 => show (y 2).val - 0 = (y 2).val; omega
    · have hn' : ¬ ∀ a, (![2 * t.val, 0, 0] : Fin 3 → Nat) a ≤ (y a).val ∧ (y a).val < (![2 * t.val, 0, 0] : Fin 3 → Nat) a + S1x768x768.size a := fun h => by
        have := (h 0).1; change 2 * t.val ≤ (y 0).val at this; omega
      unfold VecWindow.put
      rw [dif_neg hn, dif_neg hn']
      exact hX y (by omega)

theorem prep8_eq (c : Dev nD) (t : Fin cfg0.N) (ht : t.val < 4) (X8 : Vec F S6144x768 .bf16)
    (hX : ∀ y, (y 0).val < 1536 * t.val → X8 y = T8 m c y) (y : S6144x768.Idx) (hy : (y 0).val < 1536 * (t.val + 1)) :
    prep8 (grid0.coords t) (iblk m c 4 t) X8 y = T8 m c y := by
  obtain ⟨-, -, h0, h1, -⟩ := offs_of_lt t ht
  have y1 : (y 1).val < 768 := (y 1).isLt
  unfold prep8 T8
  rw [h0, h1]
  by_cases e1 : 1536 * t.val + 768 ≤ (y 0).val
  · have hc : ∀ a, (![1536 * t.val + 768, 0] : Fin 2 → Nat) a ≤ (y a).val ∧ (y a).val < (![1536 * t.val + 768, 0] : Fin 2 → Nat) a + S768x768.size a := fun a =>
      match a with
      | 0 => ⟨e1, by show (y 0).val < 1536 * t.val + 768 + 768; omega⟩
      | 1 => ⟨Nat.zero_le _, by show (y 1).val < 0 + 768; omega⟩
    unfold VecWindow.put
    rw [dif_pos hc, put8_odd m c t _ (by show (y 0).val / 768 = _; omega)]
    refine congrArg _ (funext fun a => Fin.ext ?_)
    match a with
    | 0 => show (y 0).val - (1536 * t.val + 768) = (y 0).val % 768; omega
    | 1 => show (y 1).val - 0 = (y 1).val; omega
  · have hn : ¬ ∀ a, (![1536 * t.val + 768, 0] : Fin 2 → Nat) a ≤ (y a).val ∧ (y a).val < (![1536 * t.val + 768, 0] : Fin 2 → Nat) a + S768x768.size a := fun h => by
      have := (h 0).1; change 1536 * t.val + 768 ≤ (y 0).val at this; omega
    by_cases e0 : 1536 * t.val ≤ (y 0).val
    · have hc : ∀ a, (![1536 * t.val, 0] : Fin 2 → Nat) a ≤ (y a).val ∧ (y a).val < (![1536 * t.val, 0] : Fin 2 → Nat) a + S768x768.size a := fun a =>
        match a with
        | 0 => ⟨e0, by show (y 0).val < 1536 * t.val + 768; omega⟩
        | 1 => ⟨Nat.zero_le _, by show (y 1).val < 0 + 768; omega⟩
      unfold VecWindow.put
      rw [dif_neg hn, dif_pos hc, put8_even m c t _ (by show (y 0).val / 768 = _; omega)]
      refine congrArg _ (funext fun a => Fin.ext ?_)
      match a with
      | 0 => show (y 0).val - 1536 * t.val = (y 0).val % 768; omega
      | 1 => show (y 1).val - 0 = (y 1).val; omega
    · have hn' : ¬ ∀ a, (![1536 * t.val, 0] : Fin 2 → Nat) a ≤ (y a).val ∧ (y a).val < (![1536 * t.val, 0] : Fin 2 → Nat) a + S768x768.size a := fun h => by
        have := (h 0).1; change 1536 * t.val ≤ (y 0).val at this; omega
      unfold VecWindow.put
      rw [dif_neg hn, dif_neg hn']
      exact hX y (by omega)

theorem prep9_eq (c : Dev nD) (t : Fin cfg0.N) (ht : t.val < 4) (X9 : Vec F S8x768 .f32)
    (hX : ∀ y, (y 0).val < 2 * t.val → X9 y = T9 m c y) (y : S8x768.Idx) (hy : (y 0).val < 2 * (t.val + 1)) :
    prep9 (grid0.coords t) (iblk m c 3 t) X9 y = T9 m c y := by
  obtain ⟨-, -, -, -, h0, h1⟩ := offs_of_lt t ht
  have y1 : (y 1).val < 768 := (y 1).isLt
  unfold prep9 T9
  rw [h0, h1]
  by_cases e1 : (y 0).val = 2 * t.val + 1
  · have hc : ∀ a, (![2 * t.val + 1, 0] : Fin 2 → Nat) a ≤ (y a).val ∧ (y a).val < (![2 * t.val + 1, 0] : Fin 2 → Nat) a + S1x768.size a := fun a =>
      match a with
      | 0 => ⟨by show 2 * t.val + 1 ≤ (y 0).val; omega, by show (y 0).val < 2 * t.val + 1 + 1; omega⟩
      | 1 => ⟨Nat.zero_le _, by show (y 1).val < 0 + 768; omega⟩
    unfold VecWindow.put
    rw [dif_pos hc, put9_odd m c t (y 0) e1]
    refine congrArg _ (funext fun a => Fin.ext ?_)
    match a with
    | 0 => show (y 0).val - (2 * t.val + 1) = 0; omega
    | 1 => show (y 1).val - 0 = (y 1).val; omega
  · have hn : ¬ ∀ a, (![2 * t.val + 1, 0] : Fin 2 → Nat) a ≤ (y a).val ∧ (y a).val < (![2 * t.val + 1, 0] : Fin 2 → Nat) a + S1x768.size a := fun h => by
      have := (h 0).1; change 2 * t.val + 1 ≤ (y 0).val at this; omega
    by_cases e0 : (y 0).val = 2 * t.val
    · have hc : ∀ a, (![2 * t.val, 0] : Fin 2 → Nat) a ≤ (y a).val ∧ (y a).val < (![2 * t.val, 0] : Fin 2 → Nat) a + S1x768.size a := fun a =>
        match a with
        | 0 => ⟨by show 2 * t.val ≤ (y 0).val; omega, by show (y 0).val < 2 * t.val + 1; omega⟩
        | 1 => ⟨Nat.zero_le _, by show (y 1).val < 0 + 768; omega⟩
      unfold VecWindow.put
      rw [dif_neg hn, dif_pos hc, put9_even m c t (y 0) e0]
      refine congrArg _ (funext fun a => Fin.ext ?_)
      match a with
      | 0 => show (y 0).val - 2 * t.val = 0; omega
      | 1 => show (y 1).val - 0 = (y 1).val; omega
    · have hn' : ¬ ∀ a, (![2 * t.val, 0] : Fin 2 → Nat) a ≤ (y a).val ∧ (y a).val < (![2 * t.val, 0] : Fin 2 → Nat) a + S1x768.size a := fun h => by
        have := (h 0).1; change 2 * t.val ≤ (y 0).val at this; omega
      unfold VecWindow.put
      rw [dif_neg hn, dif_neg hn']
      exact hX y (by omega)

/-- A preparing point puts its two experts in place. -/
theorem Good.prep {c : Dev nD} {t : Fin cfg0.N} (ht : t.val < 4) {X7 : Vec F S8x768x768 .bf16} {X8 : Vec F S6144x768 .bf16} {X9 : Vec F S8x768 .f32}
    (h : Good m c t.val X7 X8 X9) :
    Good m c (t.val + 1) (prep7 (grid0.coords t) (iblk m c 3 t) X7) (prep8 (grid0.coords t) (iblk m c 4 t) X8) (prep9 (grid0.coords t) (iblk m c 3 t) X9) :=
  ⟨prep7_eq m c t ht X7 h.1, prep8_eq m c t ht X8 h.2.1, prep9_eq m c t ht X9 h.2.2⟩

/-! ## The pipeline's proof data -/

/-- The invariant before point `n`: the first three scratch buffers at contents with the experts below `2 * n` in place, the
    fourth at anything, the generator register at anything. -/
def PhiS (c : Dev nD) (n : Nat) : sProp 𝕄 :=
  iprop((∃ X7 X8 X9, ⌜Good m c n X7 X8 X9⌝ ∗ owns (c : Thread nD τ) (Memref.whole cc0_scratch0) fullShare X7
      ∗ owns (c : Thread nD τ) (Memref.whole cc0_scratch1) fullShare X8 ∗ owns (c : Thread nD τ) (Memref.whole cc0_scratch2) fullShare X9)
    ∗ (∃ X10, owns (c : Thread nD τ) (Memref.whole cc0_scratch3) fullShare X10) ∗ ∃ r, prngReg c r)

/-- The block a computing point `t` leaves. -/
def outAt (c : Dev nD) (t : Fin cfg0.N) : Vec F S512x768 .f32 :=
  outBlk (iblk m c 0 t) (iblk m c 1 t) (iblk m c 2 t) (T7 m c) (T8 m c) (T9 m c)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's obligation -/

/-- What the body leaves of the result's window: at a preparing point what it found, at a computing point its block. -/
def post5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem post5_lt (c : Dev nD) (t : Fin cfg0.N) (ht : t.val < 4) :
    post5 m c t = iprop(∃ d, owns (c : Thread nD τ) (st0_5 t) fullShare ((dats m 0 c).before 5 t d)) := by
  have hi : cfg0.idle 5 (cfg0.grid.coords t) = true := by
    show (!(k0_cond2 (grid0.coords t) == 1#1)) = true
    simp [cond2_of_lt t ht]
  unfold post5
  rw [hi, flush5_of_lt t ht]

theorem post5_ge (c : Dev nD) (t : Fin cfg0.N) (ht : 4 ≤ t.val) :
    post5 m c t = owns (c : Thread nD τ) (st0_5 t) fullShare (outAt m c t) := by
  have hi : cfg0.idle 5 (cfg0.grid.coords t) = false := by
    show (!(k0_cond2 (grid0.coords t) == 1#1)) = false
    simp [cond2_of_ge t ht]
  unfold post5
  rw [hi, ← after0_5 m c t]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ post5 m c t)

theorem Φ_castSucc (c : Dev nD) (t : Fin cfg0.N) : (dats m 0 c).Φ t.castSucc = PhiS m c t.val := by
  dsimp only [dats]; exact Pipeline.Dat.Φ_castSucc (fun n _ => PhiS m c n) t
theorem Φ_succ (c : Dev nD) (t : Fin cfg0.N) : (dats m 0 c).Φ t.succ = PhiS m c (t.val + 1) := by
  dsimp only [dats]; rfl

theorem body_lt (c : Dev nD) (t : Fin cfg0.N) (ht : t.val < 4) :
    bodyPre m c t ⊢ wp frame (wpE (defs₀ (F := F)) Variants.none c none) Set.univ (bodyAt0 t) (fun _ => bodyPost m c t) := by
  unfold bodyPre bodyPost bodyAt0
  rw [post5_lt m c t ht, Φ_castSucc, Φ_succ]
  simp only [before0_0, before0_1, before0_2, before0_3, before0_4]
  rw [show (dats m 0 c).owesAt () t.succ = (dats m 0 c).owesAt () t.castSucc from rfl,
    after0_0, after0_1, after0_2, after0_3, after0_4]
  unfold PhiS
  iintro ⟨⟨⟨%X7, %X8, %X9, %hX, S7, S8, S9⟩, S10, Hr⟩, Ho, ⟨%d0, H0⟩, ⟨%d1, H1⟩, ⟨%d2, H2⟩, ⟨%d3, H3⟩, ⟨%d4, H4⟩, H5⟩
  iapply (prep_run c Set.univ (grid0.coords t) (cond1_of_lt t ht) (cond2_of_lt t ht) _ _ _ _ _ _ _ _ _ _ _ _ _ _ _ _ _ _ _ _ (iblk m c 3 t) (iblk m c 4 t) X7 X8 X9 _)
  isplitl [H3]; · iexact H3
  isplitl [H4]; · iexact H4
  isplitl [S7]; · iexact S7
  isplitl [S8]; · iexact S8
  isplitl [S9]; · iexact S9
  iintro ⟨H3, H4, S7, S8, S9⟩
  isplitl [S7 S8 S9 S10 Hr]
  · isplitl [S7 S8 S9]
    · iexists _; iexists _; iexists _
      isplitr
      · ipureintro; exact hX.prep m ht
      isplitl [S7]; · iexact S7
      isplitl [S8]; · iexact S8
      iexact S9
    isplitl [S10]; · iexact S10
    iexact Hr
  isplitl [Ho]; · iexact Ho
  isplitl [H0]; · iexact H0
  isplitl [H1]; · iexact H1
  isplitl [H2]; · iexact H2
  isplitl [H3]; · iexact H3
  isplitl [H4]; · iexact H4
  iexact H5

theorem body_ge (c : Dev nD) (t : Fin cfg0.N) (ht : 4 ≤ t.val) :
    bodyPre m c t ⊢ wp frame (wpE (defs₀ (F := F)) Variants.none c none) Set.univ (bodyAt0 t) (fun _ => bodyPost m c t) := by
  unfold bodyPre bodyPost bodyAt0
  rw [post5_ge m c t ht, Φ_castSucc, Φ_succ]
  simp only [before0_0, before0_1, before0_2, before0_3, before0_4]
  rw [show (dats m 0 c).owesAt () t.succ = (dats m 0 c).owesAt () t.castSucc from rfl,
    after0_0, after0_1, after0_2, after0_3, after0_4]
  unfold PhiS outAt
  iintro ⟨⟨⟨%X7, %X8, %X9, %hX, S7, S8, S9⟩, S10, Hr⟩, Ho, ⟨%d0, H0⟩, ⟨%d1, H1⟩, ⟨%d2, H2⟩, ⟨%d3, H3⟩, ⟨%d4, H4⟩, ⟨%d5, H5⟩⟩
  obtain ⟨rfl, rfl, rfl⟩ := hX.eq m ht
  iapply (comp_run c Set.univ (grid0.coords t) (cond1_of_ge t ht) (cond2_of_ge t ht) _ _ _ _ _ _ _ _ _ _ _ _ _ _ _ _ _ _ _ _ (iblk m c 0 t) (iblk m c 1 t) (iblk m c 2 t)
    (T7 m c) (T8 m c) (T9 m c) _)
  isplitl [H0]; · iexact H0
  isplitl [H1]; · iexact H1
  isplitl [H2]; · iexact H2
  isplitl [H5]; · iexists _; iexact H5
  isplitl [S7]; · iexact S7
  isplitl [S8]; · iexact S8
  isplitl [S9]; · iexact S9
  isplitl [S10]; · iexact S10
  iintro ⟨H0, H1, H2, H5, S7, S8, S9, S10⟩
  isplitl [S7 S8 S9 S10 Hr]
  · isplitl [S7 S8 S9]
    · iexists _; iexists _; iexists _
      isplitr
      · ipureintro; exact Good.late m (Nat.le_succ_of_le ht)
      isplitl [S7]; · iexact S7
      isplitl [S8]; · iexact S8
      iexact S9
    isplitl [S10]; · iexact S10
    iexact Hr
  isplitl [Ho]; · iexact Ho
  isplitl [H0]; · iexact H0
  isplitl [H1]; · iexact H1
  isplitl [H2]; · iexact H2
  isplitl [H3]; · iexact H3
  isplitl [H4]; · iexact H4
  iexact H5

theorem body_at (c : Dev nD) (t : Fin cfg0.N) :
    bodyPre m c t ⊢ wp frame (wpE (defs₀ (F := F)) Variants.none c none) Set.univ (bodyAt0 t) (fun _ => bodyPost m c t) :=
  (Nat.lt_or_ge t.val 4).elim (body_lt m c t) (body_ge m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

/-! ## The run and the frame -/

theorem Φ_first (c : Dev nD) : Pipeline.ΦA spec0 c ⊢ (dats m 0 c).Φ 0 := by
  show Pipeline.ΦA spec0 c ⊢ PhiS m c 0
  unfold Pipeline.ΦA PhiS
  rw [scopedRest0_eq]
  simp only [owns_whole]
  iintro ⟨⟨⟨%f7, H7⟩, ⟨%f8, H8⟩, ⟨%f9, H9⟩, ⟨%f10, H10⟩⟩, Hr⟩
  isplitl [H7 H8 H9]
  · iexists f7; iexists f8; iexists f9
    isplitr
    · ipureintro; exact ⟨fun y h => absurd h (by omega), fun y h => absurd h (by omega), fun y h => absurd h (by omega)⟩
    isplitl [H7]; · iexact H7
    isplitl [H8]; · iexact H8
    iexact H9
  isplitl [H10]
  · iexists f10
    iexact H10
  iexact Hr

theorem Φ_last (c : Dev nD) : (dats m 0 c).Φ (Fin.last cfg0.N) ⊢ Pipeline.ΦA spec0 c := by
  show PhiS m c cfg0.N ⊢ Pipeline.ΦA spec0 c
  unfold Pipeline.ΦA PhiS
  rw [scopedRest0_eq]
  simp only [owns_whole]
  iintro ⟨⟨%X7, %X8, %X9, %hX, S7, S8, S9⟩, ⟨%X10, S10⟩, Hr⟩
  isplitl [S7 S8 S9 S10]
  · isplitl [S7]; · iexists _; iexact S7
    isplitl [S8]; · iexists _; iexact S8
    isplitl [S9]; · iexists _; iexact S9
    iexists _; iexact S10
  iexact Hr

set_option backward.isDefEq.respectTransparency.types false in
/-- The launch: the arrays end at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_first m) (hout := Φ_last m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Proof.PI

end
-- ==== Proof.Ref.lean ====
/-
  The reference's frame, read off its printed host operations.
-/
module

public import proofs.«01_k».proof.Defs
public import proofs.«01_k».proof.Proof.Gen.ReferenceIdeal.Run
public import proofs.«01_k».proof.Proof.Gen.ReferenceIdeal.Read
public import Idealize.ShloMosaic.Lib.Claim

@[expose] public section

noncomputable section

namespace Cert.Proof.Ref

open Idealize.ShloMosaic Idealize.SL.Sem

/-- The reference is a line of host operations: it ends with its arguments as they were and no semaphore ever touched. -/
theorem frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof.Ref

end
-- ==== Proof.Sums.lean ====
/-
  Sums and quotients of extended reals that are real, and a nonnegative real factor through a sum.
-/
module

public import Idealize.ShloMosaic.PureOps.Ideal.Laws

@[expose] public section

noncomputable section

namespace Cert.Proof.Sums

open Idealize.ShloMosaic

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real factor goes through a sum of any extended reals. -/
theorem mul_sum {ι : Type} (s : Finset ι) (w : ℝ) (hw : 0 ≤ w) (f : ι → EReal) : (w : EReal) * ∑ k ∈ s, f k = ∑ k ∈ s, (w : EReal) * f k := by
  classical
  induction s using Finset.induction_on with
  | empty => simp
  | insert a s ha ih =>
    rw [Finset.sum_insert ha, Finset.sum_insert ha,
      EReal.left_distrib_of_nonneg_of_ne_top (by exact_mod_cast hw) (EReal.coe_ne_top w), ih]

theorem div_real (a b : ℝ) (hb : b ≠ 0) : Ideal.div (a : EReal) (b : EReal) = ((a / b : ℝ) : EReal) := by
  rw [Ideal.div_coe hb, ← EReal.coe_mul, mul_one_div]

/-- A magnitude below +∞ is a real's. -/
theorem real_of_abs_lt (x : EReal) (h : max x (-x) < ⊤) : ∃ r : ℝ, x = (r : EReal) := by
  induction x with
  | bot => simp at h
  | top => simp at h
  | coe r => exact ⟨r, rfl⟩

end Cert.Proof.Sums

end
-- ==== Proof.Hidden.lean ====
/-
  The hidden layer of one expert at one row, over the reals: the first layer's pre-activation, its mean and variance, the
  normalization and the exact GELU, as the reference computes them (two passes, a square root and a quotient, the
  complementary error function) and as the kernel does (the mean by the weights' row means, the variance by the mean of the
  squares, a reciprocal square root, the error function, the gate's weight multiplied in).
-/
module

public import proofs.«01_k».proof.Proof.Sums
public import Idealize.ShloMosaic.Lib.IdealHost

@[expose] public section

noncomputable section

namespace Cert.Proof.Hidden

open Idealize.ShloMosaic

/-! ## The constants -/

theorem ofBits_768 : Ideal.ofBits .f32 0x44400000#32 = ((768 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_inf : Ideal.ofBits .f32 0x7F800000#32 = ⊤ := by
  simp [Ideal.ofBits, Ideal.ieee]
theorem ofBits_neg_inf : Ideal.ofBits .f32 0xFF800000#32 = ⊥ := by
  simp [Ideal.ofBits, Ideal.ieee]
/-- The variance's addend is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num
/-- The scale of the error function's argument is a real. -/
theorem ofBits_scale : ∃ κ : ℝ, Ideal.ofBits .f32 0x3F3504F3#32 = (κ : EReal) := by
  refine ⟨_, by simp [Ideal.ofBits, Ideal.ieee, -EReal.coe_mul]; rfl⟩

/-! ## The layer over the reals -/

/-- The error function of a real. -/
def erfR (r : ℝ) : ℝ := 2 / Real.sqrt Real.pi * ∫ t in (0 : ℝ)..r, Real.exp (-(t ^ 2))

theorem erf_real (r : ℝ) : Ideal.erf (r : EReal) = (erfR r : EReal) := rfl

section
variable (x : Fin 768 → ℝ) (W : Fin 768 → Fin 768 → ℝ) (ε κ : ℝ)

def pre (h : Fin 768) : ℝ := ∑ d, x d * W d h
def mean : ℝ := (∑ h, pre x W h) / 768
def var : ℝ := (∑ h, (pre x W h - mean x W) * (pre x W h - mean x W)) / 768
def normed (h : Fin 768) : ℝ := (pre x W h - mean x W) / Real.sqrt (var x W + ε)
def act (h : Fin 768) : ℝ := 1 / 2 * normed x W ε h * (1 + erfR (normed x W ε h * κ))

theorem var_nonneg : 0 ≤ var x W := div_nonneg (Finset.sum_nonneg fun h _ => mul_self_nonneg _) (by norm_num)

/-- The mean by the weights' row means. -/
theorem mean_rows : ∑ d, x d * ((∑ h, W d h) / 768) = mean x W := by
  unfold mean pre
  rw [Finset.sum_comm, Finset.sum_div]
  refine Finset.sum_congr rfl fun d _ => ?_
  rw [← Finset.mul_sum, mul_div_assoc]

/-- The variance by the mean of the squares. -/
theorem var_squares : (∑ h, pre x W h * pre x W h) * 768⁻¹ - mean x W * mean x W = var x W := by
  have hsum : ∑ h, pre x W h = 768 * mean x W := by unfold mean; ring
  have hexp : ∑ h, (pre x W h - mean x W) * (pre x W h - mean x W)
      = ∑ h, pre x W h * pre x W h - 2 * mean x W * ∑ h, pre x W h + 768 * (mean x W * mean x W) := by
    rw [Finset.mul_sum, ← Finset.sum_sub_distrib]
    have : (768 : ℝ) * (mean x W * mean x W) = ∑ _h : Fin 768, mean x W * mean x W := by
      rw [Finset.sum_const, Finset.card_univ, Fintype.card_fin, nsmul_eq_mul]; norm_num
    rw [this, ← Finset.sum_add_distrib]
    exact Finset.sum_congr rfl fun h _ => by ring
  unfold var
  rw [hexp, hsum]
  ring

end

/-! ## The two spellings -/

section
variable {X : Fin 768 → EReal} {V : Fin 768 → Fin 768 → EReal} {x : Fin 768 → ℝ} {W : Fin 768 → Fin 768 → ℝ} {ε κ w : ℝ}

theorem pre_coe (hX : ∀ d, X d = (x d : EReal)) (hV : ∀ d h, V d h = (W d h : EReal)) (h : Fin 768) :
    ∑ d, X d * V d h = (pre x W h : EReal) := by
  unfold pre
  rw [Sums.coe_sum]
  exact Finset.sum_congr rfl fun d _ => by rw [hX, hV, EReal.coe_mul]

theorem sqrt_pos (hε : 0 < ε) : Ideal.sqrt ((var x W : EReal) + (ε : EReal)) = (Real.sqrt (var x W + ε) : EReal) := by
  have := var_nonneg x W
  rw [← EReal.coe_add, Ideal.sqrt_coe, if_neg (by linarith)]

theorem rsqrt_pos (hε : 0 < ε) : Ideal.rsqrt ((var x W : EReal) + (ε : EReal)) = (((Real.sqrt (var x W + ε))⁻¹ : ℝ) : EReal) := by
  have := var_nonneg x W
  rw [← EReal.coe_add, Ideal.rsqrt_coe, if_neg (by linarith), if_neg (by linarith)]

theorem sqrt_ne (hε : 0 < ε) : Real.sqrt (var x W + ε) ≠ 0 :=
  (Real.sqrt_pos.mpr (by have := var_nonneg x W; linarith)).ne'

/-- The reference's mean. -/
theorem mean_ref {P : Fin 768 → EReal} (hP : ∀ h, P h = (pre x W h : EReal)) : Ideal.div (∑ h, P h) ((768 : ℝ) : EReal) = (mean x W : EReal) := by
  have : ∑ h, P h = ((∑ h, pre x W h : ℝ) : EReal) := by rw [Sums.coe_sum]; exact Finset.sum_congr rfl fun h _ => hP h
  rw [this, Sums.div_real _ _ (by norm_num)]; rfl

/-- The reference's variance. -/
theorem var_ref {P : Fin 768 → EReal} (hP : ∀ h, P h = (pre x W h : EReal)) :
    Ideal.div (∑ h, (P h - (mean x W : EReal)) * (P h - (mean x W : EReal))) ((768 : ℝ) : EReal) = (var x W : EReal) := by
  have : ∑ h, (P h - (mean x W : EReal)) * (P h - (mean x W : EReal))
      = ((∑ h, (pre x W h - mean x W) * (pre x W h - mean x W) : ℝ) : EReal) := by
    rw [Sums.coe_sum]; exact Finset.sum_congr rfl fun h _ => by rw [hP, ← EReal.coe_sub, ← EReal.coe_mul]
  rw [this, Sums.div_real _ _ (by norm_num)]; rfl

/-- The reference's normalized value. -/
theorem normed_ref (hε : 0 < ε) (h : Fin 768) :
    Ideal.div ((pre x W h : EReal) - (mean x W : EReal)) (Ideal.sqrt ((var x W : EReal) + (ε : EReal))) = (normed x W ε h : EReal) := by
  rw [sqrt_pos hε, ← EReal.coe_sub, Sums.div_real _ _ (sqrt_ne hε)]; rfl

/-- The reference's activation. -/
theorem act_ref (h : Fin 768) :
    ((1 / 2 : ℝ) : EReal) * (normed x W ε h : EReal) * Ideal.erfc (-(normed x W ε h : EReal) * (κ : EReal)) = (act x W ε κ h : EReal) := by
  rw [EReal.neg_mul, Ideal.erfc_neg, ← EReal.coe_mul, ← EReal.coe_mul, erf_real, ← EReal.coe_one, ← EReal.coe_add, ← EReal.coe_mul]; rfl

/-- The kernel's mean. -/
theorem mean_kernel (hX : ∀ d, X d = (x d : EReal)) (hV : ∀ d h, V d h = (W d h : EReal)) :
    ∑ d, X d * Ideal.div (∑ h, V d h) ((768 : ℝ) : EReal) = (mean x W : EReal) := by
  rw [← mean_rows, Sums.coe_sum]
  refine Finset.sum_congr rfl fun d _ => ?_
  have : ∑ h, V d h = ((∑ h, W d h : ℝ) : EReal) := by rw [Sums.coe_sum]; exact Finset.sum_congr rfl fun h _ => hV d h
  rw [this, Sums.div_real _ _ (by norm_num), hX, EReal.coe_mul]

/-- The kernel's variance. -/
theorem var_kernel {P : Fin 768 → EReal} (hP : ∀ h, P h = (pre x W h : EReal)) :
    (∑ h, P h * P h) * ((768⁻¹ : ℝ) : EReal) - (mean x W : EReal) * (mean x W : EReal) = (var x W : EReal) := by
  have : ∑ h, P h * P h = ((∑ h, pre x W h * pre x W h : ℝ) : EReal) := by
    rw [Sums.coe_sum]; exact Finset.sum_congr rfl fun h _ => by rw [hP, ← EReal.coe_mul]
  rw [this, ← EReal.coe_mul, ← EReal.coe_mul, ← EReal.coe_sub, var_squares]

/-- The kernel's weighted activation. -/
theorem act_kernel (hε : 0 < ε) (h : Fin 768) :
    ((pre x W h : EReal) - (mean x W : EReal)) * (((1 / 2 : ℝ) : EReal) * Ideal.rsqrt ((var x W : EReal) + (ε : EReal)) * (w : EReal))
      * (1 + Ideal.erf (((pre x W h : EReal) - (mean x W : EReal)) * (Ideal.rsqrt ((var x W : EReal) + (ε : EReal)) * (κ : EReal))))
    = (w : EReal) * (act x W ε κ h : EReal) := by
  rw [rsqrt_pos hε, ← EReal.coe_sub, ← EReal.coe_mul, ← EReal.coe_mul, ← EReal.coe_mul, ← EReal.coe_mul, ← EReal.coe_mul, erf_real,
    ← EReal.coe_one, ← EReal.coe_add, ← EReal.coe_mul, ← EReal.coe_mul]
  unfold act normed
  rw [div_eq_mul_inv (pre x W h - mean x W), mul_assoc (pre x W h - mean x W) _ κ]
  congr 1
  ring

end

end Cert.Proof.Hidden

end
-- ==== Proof.Args.lean ====
/-
  What the claim's condition on the arguments says: the two biases and the layer norm's shift are zeros and its scale is
  ones, and every activation and every weight of the first layer is a real.
-/
module

public import proofs.«01_k».proof.Pre_plain_norm_finite_args
public import proofs.«01_k».proof.Proof.Hidden
public import proofs.«01_k».proof.Proof.Sums
public import Idealize.ShloMosaic.Lib.ReduceAll

@[expose] public section

noncomputable section

namespace Cert.Proof.Args

open Cert.Pre_plain_norm_finite_args Idealize.ShloMosaic

variable {s : Shape}

/-- The shape of no axes has one index. -/
theorem one_index : Subsingleton S_.Idx := ⟨fun a b => funext fun d => d.elim0⟩

/-- An entry that compares equal to a constant is that constant. -/
theorem of_eq (v : FVec Ideal s .f32) (w : BitVec 32) (r : EReal) (hw : Ideal.ofBits .f32 w = r) (hb : S_.BroadcastsInDim s (![] : Fin 0 → Fin s.rank))
    (i : s.Idx) (h : cmpf .oeq v (broadcastInDim s ![] hb (constant (F := Ideal) S_ .f32 w)) i = 1#1) : v i = r := by
  have h' : BitVec.ofBool (decide (v i = Ideal.ofBits .f32 w)) = 1#1 := h
  by_contra hne
  rw [hw, decide_eq_false hne] at h'
  exact absurd h' (by decide)

/-- An entry whose absolute value is below infinity is a real. -/
theorem of_lt (v : FVec Ideal s .f32) (hb : S_.BroadcastsInDim s (![] : Fin 0 → Fin s.rank)) (i : s.Idx)
    (h : cmpf .olt (Host.absf v) (broadcastInDim s ![] hb (constant (F := Ideal) S_ .f32 0x7F800000#32)) i = 1#1) :
    ∃ r : ℝ, v i = (r : EReal) := by
  have h' : BitVec.ofBool (decide (max (v i) (-(v i)) < Ideal.ofBits .f32 0x7F800000#32)) = 1#1 := h
  refine Sums.real_of_abs_lt _ ?_
  by_contra hne
  rw [Hidden.ofBits_inf, decide_eq_false hne] at h'
  exact absurd h' (by decide)

variable [Facts] (a0 : FVec Ideal S8192x768 .f32) (a1 : FVec Ideal S768x8 .f32) (a2 : FVec Ideal S8 .f32) (a3 : FVec Ideal S8x768x768 .f32)
  (a4 a5 a6 : FVec Ideal S8x768 .f32) (a7 : FVec Ideal S8x768x768 .f32) (a8 : FVec Ideal S8x768 .f32)

/-- The condition, read back entry by entry. -/
theorem read (h : fn (F := Ideal) a0 a1 a2 a3 a4 a5 a6 a7 a8 = fun _ => 1#1) :
    (∀ i, a4 i = 0) ∧ (∀ i, a5 i = 1) ∧ (∀ i, a6 i = 0) ∧ (∀ i, a8 i = 0)
      ∧ (∀ i, ∃ r : ℝ, a0 i = (r : EReal)) ∧ (∀ i, ∃ r : ℝ, a3 i = (r : EReal)) := by
  haveI := one_index
  have h0 := congrFun h (fun d => d.elim0)
  unfold fn fn_part1 at h0
  obtain ⟨hp, hf⟩ := IntOp.andi_eq_one.1 h0
  obtain ⟨hp, h8⟩ := IntOp.andi_eq_one.1 hp
  obtain ⟨hp, h6⟩ := IntOp.andi_eq_one.1 hp
  obtain ⟨h4, h5⟩ := IntOp.andi_eq_one.1 hp
  obtain ⟨hx, hW⟩ := IntOp.andi_eq_one.1 hf
  have hz : Ideal.ofBits .f32 0x00000000#32 = 0 := by simp [Ideal.ofBits, Ideal.ieee]
  have ho : Ideal.ofBits .f32 0x3F800000#32 = 1 := by simp [Ideal.ofBits, Ideal.ieee, -EReal.coe_mul]; norm_num
  exact ⟨fun i => of_eq a4 _ _ hz _ i (Host.reduce_andi_all _ _ _ _ _ h4 i), fun i => of_eq a5 _ _ ho _ i (Host.reduce_andi_all _ _ _ _ _ h5 i),
    fun i => of_eq a6 _ _ hz _ i (Host.reduce_andi_all _ _ _ _ _ h6 i), fun i => of_eq a8 _ _ hz _ i (Host.reduce_andi_all _ _ _ _ _ h8 i),
    fun i => of_lt a0 _ i (Host.reduce_andi_all _ _ _ _ _ hx i), fun i => of_lt a3 _ i (Host.reduce_andi_all _ _ _ _ _ hW i)⟩

end Cert.Proof.Args
-- ==== Proof.Gate.lean ====
/-
  The gate of one row, over the extended reals: the softmax of eight logits, the two greatest probabilities as the kernel
  finds them (a maximum and the first lane that attains it, twice, the found lane masked the second time) and as a stable
  sort puts them first, and the mixture of the experts' results under either.
-/
module

public import proofs.«01_k».proof.Proof.Sums
public import Idealize.ShloMosaic.PureOps.ShapeOps
public import Idealize.ShloMosaic.PureOps.Reduce
public import Idealize.ShloMosaic.Lib.SortFacts

@[expose] public section

noncomputable section

namespace Cert.Proof.Gate

open Idealize.ShloMosaic

/-- The greatest of eight. -/
def top (p : Fin 8 → EReal) : EReal := Finset.univ.fold max ⊥ p

/-- The softmax of eight logits. -/
def prob (L : Fin 8 → EReal) (e : Fin 8) : EReal :=
  Ideal.div (Ideal.exp (L e - top L)) (∑ k, Ideal.exp (L k - top L))

/-- The first lane at `M`, as a word; past the lanes where there is none. -/
def first (p : Fin 8 → EReal) (M : EReal) : BitVec 32 :=
  Finset.univ.fold IntOp.minsi 2147483647#32 fun k : Fin 8 => if p k = M then BitVec.ofNat 32 k.val else 8#32

/-- The kernel's first choice. -/
def i1 (p : Fin 8 → EReal) : BitVec 32 := first p (top p)
/-- The probabilities with the first choice masked. -/
def masked (p : Fin 8 → EReal) (e : Fin 8) : EReal := if BitVec.ofNat 32 e.val = i1 p then ⊥ else p e
/-- The kernel's second choice. -/
def i2 (p : Fin 8 → EReal) : BitVec 32 := first (masked p) (top (masked p))

/-- The kernel's weight of expert `e`: its probability over the chosen two's sum where it is chosen, zero elsewhere. -/
def weight (p : Fin 8 → EReal) (e : Fin 8) : EReal :=
  Ideal.div (if BitVec.ofNat 32 e.val = i1 p ∨ BitVec.ofNat 32 e.val = i2 p then p e else 0) (top p + top (masked p))

/-- The lane a stable sort, the greater first, puts at `k`. -/
def pick (p : Fin 8 → EReal) (k : Fin 8) : Fin 8 := sortedFrom (fun a b => decide (p b < p a)) k

/-! ## The greatest -/

theorem top_eq_sup (p : Fin 8 → EReal) : top p = Finset.univ.sup p := by
  unfold top; rw [Finset.sup_def]; rfl

theorem le_top (p : Fin 8 → EReal) (e : Fin 8) : p e ≤ top p := by
  rw [top_eq_sup]; exact Finset.le_sup (Finset.mem_univ e)

theorem top_attained (p : Fin 8 → EReal) : ∃ e, p e = top p := by
  rw [top_eq_sup]
  obtain ⟨e, -, he⟩ := Finset.exists_mem_eq_sup Finset.univ Finset.univ_nonempty p
  exact ⟨e, he.symm⟩

theorem top_eq_of (p : Fin 8 → EReal) (e : Fin 8) (h : ∀ k, p k ≤ p e) : top p = p e := by
  refine le_antisymm ?_ (le_top p e)
  rw [top_eq_sup]; exact Finset.sup_le fun k _ => h k

/-! ## The first lane that attains it -/

/-- Over all ways eight lanes may be marked, some lane being marked: the least of the marked lanes' words is a marked lane's,
    no lane before it being marked. -/
theorem first_marked : ∀ q : Fin 8 → Bool, (∃ k, q k = true) → ∃ i : Fin 8, q i = true ∧ (∀ k, k < i → q k = false)
    ∧ (Finset.univ.fold IntOp.minsi 2147483647#32 fun k : Fin 8 => if q k = true then BitVec.ofNat 32 k.val else 8#32)
      = BitVec.ofNat 32 i.val := by
  decide +kernel

theorem first_spec (p : Fin 8 → EReal) (M : EReal) (h : ∃ k, p k = M) :
    ∃ i : Fin 8, p i = M ∧ (∀ k, k < i → p k ≠ M) ∧ first p M = BitVec.ofNat 32 i.val := by
  obtain ⟨k, hk⟩ := h
  obtain ⟨i, hi, hlt, hf⟩ := first_marked (fun k => decide (p k = M)) ⟨k, decide_eq_true hk⟩
  refine ⟨i, of_decide_eq_true hi, fun k h => of_decide_eq_false (hlt k h), ?_⟩
  rw [← hf]
  unfold first
  simp only [decide_eq_true_eq]

theorem lane_inj : ∀ a b : Fin 8, BitVec.ofNat 32 a.val = BitVec.ofNat 32 b.val → a = b := by decide +kernel

theorem lane_iff (a b : Fin 8) : BitVec.ofNat 32 a.val = BitVec.ofNat 32 b.val ↔ a = b :=
  ⟨lane_inj a b, fun h => h ▸ rfl⟩

/-! ## The stable sort's first two -/

/-- "Sorts strictly before", ties by lane. -/
def lexBefore (p : Fin 8 → EReal) (a b : Fin 8) : Bool := decide (p b < p a ∨ (p b = p a ∧ a < b))

/-- An insertion into a list that is in order, of a lane before all of its lanes, keeps it in order. -/
theorem sorted_insert (p : Fin 8 → EReal) (a : Fin 8) (l : List (Fin 8)) (hl : l.Pairwise fun b c => lexBefore p b c = true)
    (ha : ∀ b ∈ l, a < b) :
    (insertBefore (fun a b => decide (p b < p a)) a l).Pairwise fun b c => lexBefore p b c = true := by
  induction l with
  | nil => exact List.pairwise_singleton _ _
  | cons b l ih =>
    rw [List.pairwise_cons] at hl
    unfold insertBefore
    by_cases hb : p a < p b
    · rw [if_pos (decide_eq_true hb), List.pairwise_cons]
      refine ⟨fun c hc => ?_, ih hl.2 fun c hc => ha c (List.mem_cons_of_mem _ hc)⟩
      rcases List.mem_cons.mp ((perm_insertBefore _ a l).mem_iff.mp hc) with rfl | hc
      · exact decide_eq_true (Or.inl hb)
      · exact hl.1 c hc
    · rw [if_neg (by simpa using hb), List.pairwise_cons]
      refine ⟨fun c hc => ?_, List.pairwise_cons.mpr hl⟩
      have hab := ha b List.mem_cons_self
      have hle := not_lt.mp hb
      rcases List.mem_cons.mp hc with rfl | hc
      · rcases hle.lt_or_eq with h | h
        · exact decide_eq_true (Or.inl h)
        · exact decide_eq_true (Or.inr ⟨h, hab⟩)
      · have hbc := of_decide_eq_true (hl.1 c hc)
        refine decide_eq_true ?_
        rcases hbc with h | ⟨h, hlt⟩
        · exact Or.inl (lt_of_lt_of_le h hle)
        · rcases hle.lt_or_eq with h' | h'
          · exact Or.inl (h ▸ h')
          · exact Or.inr ⟨h.trans h', hab.trans hlt⟩

theorem sorted_stable (p : Fin 8 → EReal) (l : List (Fin 8)) (hl : l.Pairwise (· < ·)) :
    (stableSort (fun a b => decide (p b < p a)) l).Pairwise fun b c => lexBefore p b c = true := by
  induction l with
  | nil => exact List.Pairwise.nil
  | cons a l ih =>
    rw [List.pairwise_cons] at hl
    unfold stableSort
    exact sorted_insert p a _ (ih hl.2) fun b hb => hl.1 b ((perm_stableSort _ l).mem_iff.mp hb)

/-- The lanes are picked in order: the greater first, the lower lane first among equals. -/
theorem pick_lt (p : Fin 8 → EReal) (i j : Fin 8) (hij : i < j) :
    p (pick p j) < p (pick p i) ∨ (p (pick p j) = p (pick p i) ∧ pick p i < pick p j) := by
  have hs : (sortPositions 8 fun a b => decide (p b < p a)).Pairwise fun b c => lexBefore p b c = true :=
    sorted_stable p _ (List.pairwise_lt_finRange 8)
  have hp := List.pairwise_iff_get.mp hs
  exact of_decide_eq_true (hp (i.cast (length_sortPositions 8 _).symm) (j.cast (length_sortPositions 8 _).symm) hij)

theorem pick_surjective (p : Fin 8 → EReal) (e : Fin 8) : ∃ k, pick p k = e := sortedFrom_surjective _ e
theorem pick_injective (p : Fin 8 → EReal) : Function.Injective (pick p) := sortedFrom_injective _

/-- A lane no lane is before is the first picked. -/
theorem pick_zero (p : Fin 8 → EReal) (i : Fin 8) (hle : ∀ k, p k ≤ p i) (hlt : ∀ k, k < i → p k ≠ p i) : pick p 0 = i := by
  obtain ⟨k, hk⟩ := pick_surjective p i
  by_cases h0 : k = 0
  · rw [← h0, hk]
  · have h := pick_lt p 0 k (Fin.pos_of_ne_zero h0)
    rw [hk] at h
    rcases h with h | ⟨h, h'⟩
    · exact absurd h (not_lt.mpr (hle _))
    · exact absurd h.symm (hlt _ h')

/-- A lane no lane but the first picked is before is the second picked. -/
theorem pick_one (p : Fin 8 → EReal) (i : Fin 8) (hi : i ≠ pick p 0) (hle : ∀ k, k ≠ pick p 0 → p k ≤ p i)
    (hlt : ∀ k, k ≠ pick p 0 → k < i → p k ≠ p i) : pick p 1 = i := by
  obtain ⟨k, hk⟩ := pick_surjective p i
  have h0 : k ≠ 0 := fun h => hi (by rw [← hk, h])
  by_cases h1 : k = 1
  · rw [← h1, hk]
  · have hne : pick p 1 ≠ pick p 0 := fun h => absurd (pick_injective p h) (by decide)
    have h := pick_lt p 1 k (by
      rw [Fin.lt_def]
      have a : k.val ≠ 0 := fun h => h0 (Fin.ext h)
      have b : k.val ≠ 1 := fun h => h1 (Fin.ext h)
      show 1 < k.val; omega)
    rw [hk] at h
    rcases h with h | ⟨h, h'⟩
    · exact absurd h (not_lt.mpr (hle _ hne))
    · exact absurd h.symm (hlt _ hne h')

/-! ## What a softmax may be -/

/-- Eight probabilities: nonnegative reals, one of them positive; or, of a row whose maximum is infinite, no number at all. -/
def Probs (p : Fin 8 → EReal) : Prop :=
  (∃ r : Fin 8 → ℝ, (∀ e, 0 ≤ r e) ∧ (∃ e, 0 < r e) ∧ ∀ e, p e = (r e : EReal)) ∨ ∀ e, p e = ⊥

theorem div_zero_bot : Ideal.div 0 ⊥ = 0 := by
  unfold Ideal.div; rw [if_neg EReal.bot_ne_zero, zero_mul]
theorem div_bot_bot : Ideal.div ⊥ ⊥ = 0 := by
  unfold Ideal.div; rw [if_neg EReal.bot_ne_zero, EReal.inv_bot, mul_zero]
theorem div_zero_zero : Ideal.div 0 0 = ⊥ := by
  unfold Ideal.div; rw [if_pos rfl, if_neg (lt_irrefl _)]

/-- A row whose every exponent is −∞ has no probabilities. -/
theorem prob_bot (L : Fin 8 → EReal) (h : ∀ e, L e - top L = ⊥) (e : Fin 8) : prob L e = ⊥ := by
  unfold prob
  simp only [h, Ideal.exp_bot, Finset.sum_const_zero, div_zero_zero]

theorem probs_prob (L : Fin 8 → EReal) : Probs (prob L) := by
  induction hM : top L with
  | bot =>
    refine Or.inr (prob_bot L fun e => ?_)
    have : L e = ⊥ := le_bot_iff.mp (hM ▸ le_top L e)
    rw [this, EReal.bot_sub]
  | coe M =>
    have hL : ∀ e, ∃ x : ℝ, 0 ≤ x ∧ Ideal.exp (L e - top L) = (x : EReal) ∧ (L e = top L → x = 1) := fun e => by
      have hle := le_top L e
      rw [hM] at hle ⊢
      induction h : L e with
      | bot => exact ⟨0, le_rfl, by rw [EReal.bot_sub, Ideal.exp_bot]; rfl, fun h => absurd h (EReal.bot_ne_coe M)⟩
      | top => rw [h] at hle; exact absurd hle (not_le.mpr (EReal.coe_lt_top M))
      | coe x =>
        refine ⟨Real.exp (x - M), (Real.exp_pos _).le, by rw [← EReal.coe_sub, Ideal.exp_coe], fun h => ?_⟩
        rw [EReal.coe_eq_coe_iff.mp h, sub_self, Real.exp_zero]
    choose x hx0 hx hx1 using hL
    obtain ⟨e1, he1⟩ := top_attained L
    have hs : 0 < ∑ k, x k := Finset.sum_pos' (fun k _ => hx0 k) ⟨e1, Finset.mem_univ _, by rw [hx1 e1 he1]; exact one_pos⟩
    refine Or.inl ⟨fun e => x e / ∑ k, x k, fun e => div_nonneg (hx0 e) hs.le, ⟨e1, div_pos (by rw [hx1 e1 he1]; exact one_pos) hs⟩, fun e => ?_⟩
    unfold prob
    simp only [hx]
    rw [← Sums.div_real _ _ hs.ne', Sums.coe_sum]
  | top =>
    refine Or.inr (prob_bot L fun e => ?_)
    rw [hM, EReal.sub_top]

/-! ## The weights -/

/-- What the kernel's two choices are: over probabilities that are numbers, the two lanes a stable sort puts first, at
    their own probabilities. -/
theorem choices {p : Fin 8 → EReal} {r : Fin 8 → ℝ} (hp : ∀ e, p e = (r e : EReal)) :
    i1 p = BitVec.ofNat 32 (pick p 0).val ∧ i2 p = BitVec.ofNat 32 (pick p 1).val
    ∧ top p = p (pick p 0) ∧ top (masked p) = p (pick p 1) := by
  obtain ⟨i, hi, hlt, hf⟩ := first_spec p (top p) (top_attained p)
  have h0 : pick p 0 = i := pick_zero p i (fun k => hi ▸ le_top p k) (fun k h => hi ▸ hlt k h)
  have h1 : i1 p = BitVec.ofNat 32 i.val := hf
  have hm : ∀ e, masked p e = if e = i then ⊥ else p e := fun e => by
    unfold masked; rw [h1]; simp only [lane_iff]
  obtain ⟨j, hj, hjlt, hjf⟩ := first_spec (masked p) (top (masked p)) (top_attained _)
  have hji : j ≠ i := fun h => by
    obtain ⟨k, hk⟩ : ∃ k : Fin 8, k ≠ i := exists_ne i
    have := le_top (masked p) k
    rw [← hj, hm k, hm j, if_neg hk, if_pos h, hp k] at this
    exact absurd (le_bot_iff.mp this) (EReal.coe_ne_bot _)
  have hmj : masked p j = p j := by rw [hm, if_neg hji]
  have h2 : pick p 1 = j := pick_one p j (h0 ▸ hji)
    (fun k hk => by
      have := le_top (masked p) k
      rwa [← hj, hmj, hm k, if_neg (h0 ▸ hk)] at this)
    (fun k hk hkj => by
      have := hjlt k hkj
      rwa [← hj, hmj, hm k, if_neg (h0 ▸ hk)] at this)
  refine ⟨h0 ▸ h1, h2 ▸ hjf, h0 ▸ hi.symm, ?_⟩
  rw [h2, ← hmj, hj]

/-- The chosen two's sum is positive. -/
theorem chosen_pos {p : Fin 8 → EReal} {r : Fin 8 → ℝ} (h0 : ∀ e, 0 ≤ r e) (h1 : ∃ e, 0 < r e) (hp : ∀ e, p e = (r e : EReal)) :
    0 < r (pick p 0) + r (pick p 1) := by
  obtain ⟨e, he⟩ := h1
  obtain ⟨-, -, ht, -⟩ := choices hp
  have := le_top p e
  rw [ht, hp, hp, EReal.coe_le_coe_iff] at this
  have := h0 (pick p 1)
  linarith

/-- Over numbers the kernel's weight is the sorted choice's. -/
theorem weight_real {p : Fin 8 → EReal} {r : Fin 8 → ℝ} (h0 : ∀ e, 0 ≤ r e) (h1 : ∃ e, 0 < r e) (hp : ∀ e, p e = (r e : EReal)) (e : Fin 8) :
    weight p e = (((if e = pick p 0 ∨ e = pick p 1 then r e else 0) / (r (pick p 0) + r (pick p 1)) : ℝ) : EReal) := by
  obtain ⟨hi1, hi2, ht1, ht2⟩ := choices hp
  have hn : (if e = pick p 0 ∨ e = pick p 1 then (r e : EReal) else 0)
      = ((if e = pick p 0 ∨ e = pick p 1 then r e else 0 : ℝ) : EReal) := by
    split_ifs
    · rfl
    · exact EReal.coe_zero.symm
  unfold weight
  rw [hi1, hi2, ht1, ht2]
  simp only [lane_iff]
  rw [hp, hp, hp, hn, ← EReal.coe_add, Sums.div_real _ _ (chosen_pos h0 h1 hp).ne']

/-- Without probabilities every weight is zero. -/
theorem weight_none {p : Fin 8 → EReal} (hp : ∀ e, p e = ⊥) (e : Fin 8) : weight p e = 0 := by
  have ht : top p = ⊥ := by rw [top_eq_of p 0 fun k => by rw [hp, hp], hp]
  unfold weight
  rw [ht, EReal.bot_add, hp]
  split_ifs
  · exact div_bot_bot
  · exact div_zero_bot

/-- A weight is a nonnegative real. -/
theorem weight_nonneg {p : Fin 8 → EReal} (hp : Probs p) (e : Fin 8) : ∃ w : ℝ, 0 ≤ w ∧ weight p e = (w : EReal) := by
  rcases hp with ⟨r, h0, h1, hr⟩ | hb
  · refine ⟨_, div_nonneg ?_ (chosen_pos h0 h1 hr).le, weight_real h0 h1 hr e⟩
    split_ifs
    · exact h0 e
    · exact le_rfl
  · exact ⟨0, le_rfl, by rw [weight_none hb]; rfl⟩

/-- The mixture: the experts' results under the kernel's weights are the two picked lanes' results under theirs. -/
theorem mixture {p : Fin 8 → EReal} (hp : Probs p) (y : Fin 8 → EReal) :
    ∑ e, weight p e * y e
      = y (pick p 0) * Ideal.div (p (pick p 0)) (p (pick p 0) + p (pick p 1))
        + y (pick p 1) * Ideal.div (p (pick p 1)) (p (pick p 0) + p (pick p 1)) := by
  rcases hp with ⟨r, h0, h1, hr⟩ | hb
  · have hne : pick p 0 ≠ pick p 1 := fun h => absurd (pick_injective p h) (by decide)
    have hs := chosen_pos h0 h1 hr
    have hw := weight_real h0 h1 hr
    have hsub : ∑ e ∈ {pick p 0, pick p 1}, weight p e * y e = ∑ e, weight p e * y e :=
      Finset.sum_subset (Finset.subset_univ _) fun e _ he => by
        have hn : ¬ (e = pick p 0 ∨ e = pick p 1) := by simpa using he
        rw [hw, if_neg hn, zero_div, EReal.coe_zero, zero_mul]
    rw [← hsub, Finset.sum_pair hne, hw, hw, if_pos (Or.inl rfl), if_pos (Or.inr rfl)]
    rw [hr (pick p 0), hr (pick p 1), ← EReal.coe_add, Sums.div_real _ _ hs.ne', Sums.div_real _ _ hs.ne']
    rw [mul_comm, mul_comm (((r (pick p 1) / _ : ℝ) : EReal))]
  · simp only [weight_none hb, zero_mul, Finset.sum_const_zero, hb, EReal.bot_add, div_bot_bot, mul_zero, add_zero]

end Cert.Proof.Gate

end
-- ==== Proof.PI.Block.lean ====
/-
  One block of the kernel's result over the extended reals: the gate's weights of a row, the first layer's row means, an
  expert's stripe of weighted activations, and the block as a sum over the experts.
-/
module

public import proofs.«01_k».proof.Proof.PI.Body
public import proofs.«01_k».proof.Proof.Gate
public import proofs.«01_k».proof.Proof.Hidden
public import Idealize.ShloMosaic.Lib.Pointwise
public import Idealize.ShloMosaic.Lib.ValueIdx
public import Idealize.ShloMosaic.Lib.Pipeline.ValueKit.Acc

@[expose] public section

set_option maxRecDepth 16384

noncomputable section

namespace Cert.Proof.PI

open Cert.KernelIdeal Cert.KernelIdeal.Gen
open Idealize.ShloMosaic
open Cert.KernelIdeal.Facts

/-! ## The gate of a row -/

/-- The logits of a row of a block. -/
def logits (x0 : Vec Ideal S512x768 .f32) (x1 : Vec Ideal S768x8 .f32) (x2 : Vec Ideal S1x8 .f32) (r : Fin 512) (e : Fin 8) : EReal :=
  ∑ k : Fin 768, x0 (ix2 r k) * x1 (ix2 k e) + x2 (ix2 0 e)

theorem lane_word (r : Fin 512) (e : Fin 8) :
    BitVec.ofNat 32 (List.foldl (fun n a => n * S512x8.size a + ((ix2 r e : S512x8.Idx) a).val) 0 [1]) = BitVec.ofNat 32 e.val := by
  simp [ix2]

theorem select_eq (a b : BitVec 32) (x y : EReal) : Scalar.select (IntOp.cmpi .eq a b) x y = if a = b then x else y := by
  by_cases h : a = b
  · simp [Scalar.select, IntOp.cmpi, h]
  · have : (a == b) = false := by simpa using h
    simp [Scalar.select, IntOp.cmpi, h, this]
theorem select_ofBool (b : Bool) (x y : EReal) : Scalar.select (BitVec.ofBool b) x y = if b = true then x else y := by
  cases b <;> rfl
theorem ori_eq (a b c : BitVec 32) :
    IntOp.ori (IntOp.cmpi .eq a b) (IntOp.cmpi .eq a c) = BitVec.ofBool (decide (a = b ∨ a = c)) := by
  have key : ∀ p q : Bool, BitVec.ofBool p ||| BitVec.ofBool q = BitVec.ofBool (p || q) := by decide
  show BitVec.ofBool (a == b) ||| BitVec.ofBool (a == c) = _
  rw [key, Bool.decide_or]; rfl

section
variable (x0 : Vec Ideal S512x768 .f32) (x1 : Vec Ideal S768x8 .f32) (x2 : Vec Ideal S1x8 .f32) (r : Fin 512) (e : Fin 8)

theorem pay12_apply : k0_pay12 (F := Ideal) x0 x1 x2 (ix2 r e) = Gate.prob (logits x0 x1 x2 r) e := by
  unfold k0_pay12
  simp only [pointwise]
  simp [Gate.prob, Gate.top, Hidden.ofBits_neg_inf]
  rfl

theorem pay13_apply : k0_pay13 (F := Ideal) x0 x1 x2 (ix2 r 0) = Gate.top (Gate.prob (logits x0 x1 x2 r)) := by
  unfold k0_pay13
  simp only [pointwise]
  simp [Gate.top, pay12_apply, Hidden.ofBits_neg_inf]

theorem pay14_apply : k0_pay14 (F := Ideal) x0 x1 x2 (ix2 r 0) = Gate.i1 (Gate.prob (logits x0 x1 x2 r)) := by
  unfold k0_pay14
  simp only [pointwise]
  simp [Gate.i1, Gate.first, pay12_apply, pay13_apply]

theorem pay15_apply : k0_pay15 (F := Ideal) x0 x1 x2 (ix2 r e) = Gate.masked (Gate.prob (logits x0 x1 x2 r)) e := by
  unfold k0_pay15
  simp only [pointwise]
  simp [Gate.masked, pay12_apply, pay14_apply, Hidden.ofBits_neg_inf, select_eq]

theorem pay16_apply : k0_pay16 (F := Ideal) x0 x1 x2 (ix2 r 0) = Gate.top (Gate.masked (Gate.prob (logits x0 x1 x2 r))) := by
  unfold k0_pay16
  simp only [pointwise]
  simp [Gate.top, pay15_apply, Hidden.ofBits_neg_inf]

theorem pay17_apply : k0_pay17 (F := Ideal) x0 x1 x2 (ix2 r e)
    = BitVec.ofBool (decide (BitVec.ofNat 32 e.val = Gate.i1 (Gate.prob (logits x0 x1 x2 r)) ∨ BitVec.ofNat 32 e.val = Gate.i2 (Gate.prob (logits x0 x1 x2 r)))) := by
  unfold k0_pay17
  simp only [pointwise]
  simp [Gate.i2, Gate.first, pay15_apply, pay14_apply, pay16_apply]
  rw [ori_eq]
  exact congrArg BitVec.ofBool (decide_eq_decide.mpr Iff.rfl)

theorem gate_apply : gate (F := Ideal) x0 x1 x2 (ix2 r e) = Gate.weight (Gate.prob (logits x0 x1 x2 r)) e := by
  unfold gate k0_pay19 k0_pay18
  simp only [pointwise]
  simp [Gate.weight, pay12_apply, pay13_apply, pay16_apply, pay17_apply, select_ofBool]

end

/-! ## The prepared weights -/

theorem pay9_apply (w : Vec Ideal S1x768x768 .f32) (d : Fin 768) :
    k0_pay9 (F := Ideal) w (ix2 0 d) = Ideal.div (∑ k : Fin 768, w (ix3 0 d k)) ((768 : ℝ) : EReal) := by
  unfold k0_pay9 k0_pay6
  simp only [pointwise]
  exact congrArg _ Hidden.ofBits_768
theorem pay3_apply (w : Vec Ideal S1x768x768 .f32) (d : Fin 768) :
    k0_pay3 (F := Ideal) (k0_pay10 (F := Ideal) w) (ix2 0 d) = Ideal.div (∑ k : Fin 768, w (ix3 0 d k)) ((768 : ℝ) : EReal) := by
  unfold k0_pay3 k0_pay10
  simp only [pointwise]
  exact congrArg _ Hidden.ofBits_768
theorem pay7_apply (w : Vec Ideal S1x768x768 .f32) (d h : Fin 768) : k0_pay7 (F := Ideal) w (ix3 0 d h) = w (ix3 0 d h) := by
  unfold k0_pay7 k0_pay6
  simp only [pointwise]
theorem pay1_apply (w : Vec Ideal S1x768x768 .f32) (d h : Fin 768) : k0_pay1 (F := Ideal) (k0_pay11 (F := Ideal) w) (ix3 0 d h) = w (ix3 0 d h) := by
  unfold k0_pay1 k0_pay11 k0_pay10
  simp only [pointwise]
theorem pay8_apply (w : Vec Ideal S1x768x768 .f32) (d h : Fin 768) : k0_pay8 (F := Ideal) w (ix2 d h) = w (ix3 0 d h) := by
  unfold k0_pay8
  simp only [pointwise]
theorem pay2_apply (w : Vec Ideal S1x768x768 .f32) (d h : Fin 768) : k0_pay2 (F := Ideal) w (ix2 d h) = w (ix3 0 d h) := by
  unfold k0_pay2
  simp only [pointwise]

theorem pay20_apply (x0 : Vec Ideal S512x768 .f32) (r : Fin 512) (k : Fin 768) : k0_pay20 (F := Ideal) x0 (ix2 r k) = x0 (ix2 r k) := rfl
theorem pay21_apply (x0 : Vec Ideal S512x768 .f32) (X9 : Vec Ideal S8x768 .f32) (r : Fin 512) (e : Fin 8) :
    k0_pay21 (F := Ideal) x0 X9 (ix2 r e) = ∑ k : Fin 768, x0 (ix2 r k) * X9 (ix2 e k) := by
  unfold k0_pay21 k0_pay20
  simp only [pointwise]
  simp

theorem pay5_apply (a : Vec Ideal S512x6144 .bf16) (b : Vec Ideal S6144x768 .bf16) (r : Fin 512) (o : Fin 768) :
    k0_pay5 (F := Ideal) a b (ix2 r o) = ∑ k : Fin 6144, a (ix2 r k) * b (ix2 k o) := by
  unfold k0_pay5
  simp only [pointwise]
  simp

/-! ## A stripe -/

/-- The named constant is the exact inverse. -/
theorem inv_h : Named.named (F := Ideal) Cert.KernelIdeal.κ "inv_h" (φ := .f32) 0x3AAAAAAB#32 = ((768⁻¹ : ℝ) : EReal) :=
  IdealRules.named_const.ideal_named_scalar _ _ _ _ rfl

/-- A stripe at an index, from the row's product `P` with the weights, its mean `M` and its gate's weight `g`. -/
theorem stripe_apply (e : Fin 8) (ws : FVec Ideal S512x8 .f32) (xb : FVec Ideal S512x768 .bf16) (mu : FVec Ideal S512x8 .f32)
    (w : Vec Ideal S1x768x768 .bf16) (r : Fin 512) (h : Fin 768) (P : Fin 768 → EReal) (M g : EReal)
    (hP : ∀ j, ∑ k : Fin 768, (xb (ix2 r k) : EReal) * w (ix3 0 k j) = P j) (hM : mu (ix2 r e) = M) (hg : ws (ix2 r e) = g) :
    stripe (F := Ideal) e ws xb mu w (ix2 r h)
      = (P h - M) * (Ideal.ofBits .f32 0x3F000000#32 * Ideal.rsqrt ((∑ j, P j * P j) * ((768⁻¹ : ℝ) : EReal) - M * M + Ideal.ofBits .f32 0x3727C5AC#32) * g)
        * (1 + Ideal.erf ((P h - M) * (Ideal.rsqrt ((∑ j, P j * P j) * ((768⁻¹ : ℝ) : EReal) - M * M + Ideal.ofBits .f32 0x3727C5AC#32)
          * Ideal.ofBits .f32 0x3F3504F3#32))) := by
  have hi (h1) (h2) : (ix2 ⟨(![0, e.val] : Fin 2 → Nat) 0 + r.val, h1⟩ ⟨(![0, e.val] : Fin 2 → Nat) 1 + 0, h2⟩ : S512x8.Idx) = ix2 r e := by
    congr 1; exact Fin.ext (Nat.zero_add _)
  unfold stripe
  simp only [pointwise]
  simp only [inv_h, zero_add, reduceDIte, Nat.reduceEqDiff, hi, hM, hg, hP]
  rfl

/-! ## The block -/

theorem ld_expert (X7 : Vec Ideal S8x768x768 .bf16) (e : Fin 8) (k h : Fin 768) :
    View.ld X7 (rW e) (ix3 0 k h : S1x768x768.Idx) = X7 (ix3 e k h) := by
  show X7 _ = X7 _
  congr 1; funext a; apply Fin.ext
  fin_cases a
  · show e.val + 1 * 0 = e.val; omega
  · show 0 + 1 * k.val = k.val; omega
  · show 0 + 1 * h.val = h.val; omega

/-- Row `e * 768 + h` of the second layer's weights as the kernel lays them out. -/
def row (e : Fin 8) (h : Fin 768) : Fin 6144 := ⟨e.val * 768 + h.val, by omega⟩

section
variable (x0 : Vec Ideal S512x768 .f32) (x1 : Vec Ideal S768x8 .f32) (x2 : Vec Ideal S1x8 .f32)
    (X7 : Vec Ideal S8x768x768 .bf16) (X8 : Vec Ideal S6144x768 .bf16) (X9 : Vec Ideal S8x768 .f32)
    (x : Fin 512 → Fin 768 → ℝ) (W : Fin 8 → Fin 768 → Fin 768 → ℝ) (ε κ : ℝ)

/-- An expert's stripe is its gate's weight times the layer's activation. -/
theorem stripeOf_apply (hx : ∀ r k, x0 (ix2 r k) = (x r k : EReal)) (hW : ∀ e k h, X7 (ix3 e k h) = (W e k h : EReal))
    (hM : ∀ e d, X9 (ix2 e d) = Ideal.div (∑ k : Fin 768, X7 (ix3 e d k)) ((768 : ℝ) : EReal))
    (hε : 0 < ε) (hε' : Ideal.ofBits .f32 0x3727C5AC#32 = (ε : EReal)) (hκ : Ideal.ofBits .f32 0x3F3504F3#32 = (κ : EReal))
    (e : Fin 8) (r : Fin 512) (h : Fin 768) :
    stripeOf (F := Ideal) x0 x1 x2 X7 X9 e (ix2 r h)
      = Gate.weight (Gate.prob (logits x0 x1 x2 r)) e * (Hidden.act (x r) (W e) ε κ h : EReal) := by
  obtain ⟨w, -, hw⟩ := Gate.weight_nonneg (Gate.probs_prob (logits x0 x1 x2 r)) e
  have hP (j : Fin 768) : ∑ k : Fin 768, x0 (ix2 r k) * X7 (ix3 e k j) = (Hidden.pre (x r) (W e) j : EReal) :=
    Hidden.pre_coe (hx r) (hW e) j
  have hmu : ∑ k : Fin 768, x0 (ix2 r k) * X9 (ix2 e k) = (Hidden.mean (x r) (W e) : EReal) := by
    simp only [hM]; exact Hidden.mean_kernel (hx r) (hW e)
  unfold stripeOf
  rw [stripe_apply e _ (k0_pay20 (F := Ideal) x0) _ _ r h (fun j => (Hidden.pre (x r) (W e) j : EReal)) (Hidden.mean (x r) (W e) : EReal) (w : EReal)
    (fun j => (Finset.sum_congr rfl fun k _ => congrArg (x0 (ix2 r k) * ·) (ld_expert X7 e k j)).trans (hP j)) (by rw [pay21_apply]; exact hmu) (by rw [gate_apply, hw])]
  rw [Hidden.var_kernel (x := x r) (W := W e) (P := fun j => (Hidden.pre (x r) (W e) j : EReal)) (fun _ => rfl), hε', hκ, Hidden.ofBits_half, hw]
  exact Hidden.act_kernel hε h

/-- The block at an index: the experts' results weighted by the gate. -/
theorem outBlk_apply (hx : ∀ r k, x0 (ix2 r k) = (x r k : EReal)) (hW : ∀ e k h, X7 (ix3 e k h) = (W e k h : EReal))
    (hM : ∀ e d, X9 (ix2 e d) = Ideal.div (∑ k : Fin 768, X7 (ix3 e d k)) ((768 : ℝ) : EReal))
    (hε : 0 < ε) (hε' : Ideal.ofBits .f32 0x3727C5AC#32 = (ε : EReal)) (hκ : Ideal.ofBits .f32 0x3F3504F3#32 = (κ : EReal))
    (r : Fin 512) (o : Fin 768) :
    outBlk (F := Ideal) x0 x1 x2 X7 X8 X9 (ix2 r o)
      = ∑ e : Fin 8, Gate.weight (Gate.prob (logits x0 x1 x2 r)) e
          * ∑ h : Fin 768, (Hidden.act (x r) (W e) ε κ h : EReal) * X8 (ix2 (row e h) o) := by
  unfold outBlk
  rw [pay5_apply]
  have hs := Fin.sum_univ_univ_mul_add (M := EReal) 8 768 (fun l => if hl : l < 6144 then
    acts (F := Ideal) x0 x1 x2 X7 X9 (ix2 r ⟨l, hl⟩) * X8 (ix2 ⟨l, hl⟩ o) else 0)
  have hr : ∑ k : Fin 6144, acts (F := Ideal) x0 x1 x2 X7 X9 (ix2 r k) * X8 (ix2 k o)
      = ∑ l : Fin (8 * 768), (fun l => if hl : l < 6144 then
    acts (F := Ideal) x0 x1 x2 X7 X9 (ix2 r ⟨l, hl⟩) * X8 (ix2 ⟨l, hl⟩ o) else 0) l.val :=
    Finset.sum_congr rfl fun l _ => by
      dsimp only; rw [dif_pos l.isLt]
  refine hr.trans (hs.symm.trans (Finset.sum_congr rfl fun e _ => ?_))
  obtain ⟨w, hw0, hw⟩ := Gate.weight_nonneg (Gate.probs_prob (logits x0 x1 x2 r)) e
  rw [hw, Sums.mul_sum _ _ hw0]
  refine Finset.sum_congr rfl fun h _ => ?_
  have hlt : e.val * 768 + h.val < 6144 := by omega
  have ha : acts (F := Ideal) x0 x1 x2 X7 X9 (ix2 r (row e h)) = stripeOf (F := Ideal) x0 x1 x2 X7 X9 e (ix2 r h) := by
    have e1 : (⟨(row e h).val / 768, Nat.div_lt_of_lt_mul (row e h).isLt⟩ : Fin 8) = e := Fin.ext (by show (e.val * 768 + h.val) / 768 = e.val; omega)
    have e2 : (⟨(row e h).val % 768, Nat.mod_lt _ (by decide)⟩ : Fin 768) = h := Fin.ext (by show (e.val * 768 + h.val) % 768 = h.val; omega)
    show stripeOf (F := Ideal) x0 x1 x2 X7 X9 ⟨(row e h).val / 768, _⟩ (fun | 0 => r | 1 => ⟨(row e h).val % 768, _⟩) = _
    rw [e1]
    congr 1; funext a; fin_cases a
    · rfl
    · exact e2
  show (if hl : e.val * 768 + h.val < 6144 then _ else _) = _
  rw [dif_pos hlt]
  show acts (F := Ideal) x0 x1 x2 X7 X9 (ix2 r (row e h)) * X8 (ix2 (row e h) o) = _
  rw [ha, stripeOf_apply x0 x1 x2 X7 X9 x W ε κ hx hW hM hε hε' hκ, hw, mul_assoc]
end

end Cert.Proof.PI
-- ==== Proof.Layer.lean ====
/-
  The layer of one row: what both programs compute at one index of the result.
-/
module

public import proofs.«01_k».proof.Proof.Gate
public import proofs.«01_k».proof.Proof.Hidden

@[expose] public section

noncomputable section

namespace Cert.Proof.Layer

open Idealize.ShloMosaic

/-- The gate's logits of a row. -/
def logits (X : Fin 768 → EReal) (G : Fin 768 → Fin 8 → EReal) (b : Fin 8 → EReal) (e : Fin 8) : EReal :=
  ∑ k, X k * G k e + b e

/-- Column `o` of a row's result: the experts' second layers, of the reals `x` and `W` the row and the first layer's weights
    are, weighted by the gate. -/
def mixed (L : Fin 8 → EReal) (x : Fin 768 → ℝ) (W : Fin 8 → Fin 768 → Fin 768 → ℝ) (ε κ : ℝ) (V : Fin 8 → Fin 768 → Fin 768 → EReal)
    (o : Fin 768) : EReal :=
  ∑ e, Gate.weight (Gate.prob L) e * ∑ h, (Hidden.act x (W e) ε κ h : EReal) * V e h o

end Cert.Proof.Layer
-- ==== Proof.PI.Output.lean ====
/-
  The kernel's run read: what the staged blocks and the carried scratch hold in terms of the arguments, the result array as
  one expression of them, and the run with the arguments unchanged.
-/
module

public import proofs.«01_k».proof.Proof.PI.Frame
public import proofs.«01_k».proof.Proof.PI.Block
public import proofs.«01_k».proof.Proof.Layer

@[expose] public section

set_option maxRecDepth 16384

noncomputable section

namespace Cert.Proof.PI

open Cert.KernelIdeal Cert.KernelIdeal.Gen
open Idealize.ShloMosaic Idealize.ShloMosaic.TcCoe
open Idealize.ShloMosaic.Pipeline (Dat)
open Cert.KernelIdeal.Facts

/-! ## Where each window's block lies -/

theorem index_0 : ∀ t : Fin cfg0.N, 4 ≤ t.val → win0_0.index t 0 = t.val - 4 ∧ win0_0.index t 1 = 0 :=
  (by decide +kernel : ∀ t : Fin grid0.N, 4 ≤ t.val → win0_0.index t 0 = t.val - 4 ∧ win0_0.index t 1 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)
theorem index_3 : ∀ t : Fin cfg0.N, t.val < 4 → win0_3.index t 0 = t.val ∧ win0_3.index t 1 = 0 ∧ win0_3.index t 2 = 0 :=
  (by decide +kernel : ∀ t : Fin grid0.N, t.val < 4 → win0_3.index t 0 = t.val ∧ win0_3.index t 1 = 0 ∧ win0_3.index t 2 = 0)
theorem index_4 : ∀ t : Fin cfg0.N, t.val < 4 → win0_4.index t 0 = t.val ∧ win0_4.index t 1 = 0 ∧ win0_4.index t 2 = 0 :=
  (by decide +kernel : ∀ t : Fin grid0.N, t.val < 4 → win0_4.index t 0 = t.val ∧ win0_4.index t 1 = 0 ∧ win0_4.index t 2 = 0)
theorem index_5 : ∀ t : Fin cfg0.N, 4 ≤ t.val → win0_5.index t 0 = t.val - 4 ∧ win0_5.index t 1 = 0
    ∧ win0_5.xsize (grid0.coords t) 0 = 512 ∧ win0_5.xsize (grid0.coords t) 1 = 768 ∧ (cfg0.win 5).flush t = true :=
  (by decide +kernel : ∀ t : Fin grid0.N, 4 ≤ t.val → win0_5.index t 0 = t.val - 4 ∧ win0_5.index t 1 = 0
    ∧ win0_5.xsize (grid0.coords t) 0 = 512 ∧ win0_5.xsize (grid0.coords t) 1 = 768 ∧ win0_5.flush t = true)

variable (m : (ℓ : Loc nD τ sig) → Buf (Elt Ideal) ℓ) (c : Dev nD)

/-! ## The staged blocks -/

/-- A row of a computing point's block is a row of the input. -/
def rowOf (t : Fin cfg0.N) (r : Fin 512) : Fin 8192 := ⟨(t.val - 4) * 512 + r.val, by
  have : t.val < 20 := t.isLt
  omega⟩

theorem blk_0 (t : Fin cfg0.N) (ht : 4 ≤ t.val) (r : Fin 512) (k : Fin 768) :
    (iblk m c 0 t : Vec Ideal S512x768 .f32) (ix2 r k) = m ((c : Thread nD τ).loc main_arg0) (ix2 (rowOf t r) k : S8192x768.Idx) := by
  obtain ⟨h0, h1⟩ := index_0 t ht
  rw [← V_main_arg0 m c]
  show V m c main_arg0 _ = V m c main_arg0 _
  congr 1; funext a; apply Fin.ext
  fin_cases a
  · show win0_0.index t 0 * 512 + 1 * r.val = (t.val - 4) * 512 + r.val; rw [h0]; omega
  · show win0_0.index t 1 * 768 + 1 * k.val = k.val; rw [h1]; omega

theorem blk_1 (t : Fin cfg0.N) (k : Fin 768) (e : Fin 8) :
    (iblk m c 1 t : Vec Ideal S768x8 .f32) (ix2 k e) = m ((c : Thread nD τ).loc main_arg1) (ix2 k e : S768x8.Idx) := by
  obtain ⟨h0, h1⟩ := index_1 t
  rw [← V_main_arg1 m c]
  show V m c main_arg1 _ = V m c main_arg1 _
  congr 1; funext a; apply Fin.ext
  fin_cases a
  · show win0_1.index t 0 * 768 + 1 * k.val = k.val; rw [h0]; omega
  · show win0_1.index t 1 * 8 + 1 * e.val = e.val; rw [h1]; omega

theorem blk_2 (t : Fin cfg0.N) (e : Fin 8) :
    (iblk m c 2 t : Vec Ideal S1x8 .f32) (ix2 0 e) = m ((c : Thread nD τ).loc main_arg2) (ix1 e : S8.Idx) := by
  obtain ⟨h0, h1⟩ := index_2 t
  have hV : V m c main_call0_v0 = shapeCast S1x8 (m ((c : Thread nD τ).loc main_arg2)) shapeCasts_S8_S1x8 := by
    unfold V
    rfl
  have : (iblk m c 2 t : Vec Ideal S1x8 .f32) (ix2 0 e) = V m c main_call0_v0 (ix2 0 e : S1x8.Idx) := by
    show V m c main_call0_v0 _ = V m c main_call0_v0 _
    congr 1; funext a; apply Fin.ext
    fin_cases a
    · show win0_2.index t 0 * 1 + 1 * 0 = 0; rw [h0]
    · show win0_2.index t 1 * 8 + 1 * e.val = e.val; rw [h1]; omega
  rw [this, hV]
  simp only [pointwise]

theorem blk_3 (t : Fin cfg0.N) (ht : t.val < 4) (b : Fin 2) (e : Fin 8) (he : e.val = 2 * t.val + b.val) (d h : Fin 768) :
    (iblk m c 3 t : Vec Ideal S2x768x768 .f32) (ix3 b d h) = m ((c : Thread nD τ).loc main_arg3) (ix3 e d h : S8x768x768.Idx) := by
  obtain ⟨h0, h1, h2⟩ := index_3 t ht
  rw [← V_main_arg3 m c]
  show V m c main_arg3 _ = V m c main_arg3 _
  congr 1; funext a; apply Fin.ext
  fin_cases a
  · show win0_3.index t 0 * 2 + 1 * b.val = e.val; rw [h0]; omega
  · show win0_3.index t 1 * 768 + 1 * d.val = d.val; rw [h1]; omega
  · show win0_3.index t 2 * 768 + 1 * h.val = h.val; rw [h2]; omega

theorem blk_4 (t : Fin cfg0.N) (ht : t.val < 4) (b : Fin 2) (e : Fin 8) (he : e.val = 2 * t.val + b.val) (d h : Fin 768) :
    (iblk m c 4 t : Vec Ideal S2x768x768 .f32) (ix3 b d h) = m ((c : Thread nD τ).loc main_arg7) (ix3 e d h : S8x768x768.Idx) := by
  obtain ⟨h0, h1, h2⟩ := index_4 t ht
  rw [← V_main_arg7 m c]
  show V m c main_arg7 _ = V m c main_arg7 _
  congr 1; funext a; apply Fin.ext
  fin_cases a
  · show win0_4.index t 0 * 2 + 1 * b.val = e.val; rw [h0]; omega
  · show win0_4.index t 1 * 768 + 1 * d.val = d.val; rw [h1]; omega
  · show win0_4.index t 2 * 768 + 1 * h.val = h.val; rw [h2]; omega

/-! ## The carried scratch -/

theorem ld_rE0 (X : Vec Ideal S2x768x768 .f32) (d h : Fin 768) :
    View.ld X rE0 (ix3 0 d h : S1x768x768.Idx) = X (ix3 0 d h) := by
  show X _ = X _
  congr 1; funext a; apply Fin.ext
  fin_cases a
  · show 0 + 1 * 0 = 0; omega
  · show 0 + 1 * d.val = d.val; omega
  · show 0 + 1 * h.val = h.val; omega
theorem ld_rE1 (X : Vec Ideal S2x768x768 .f32) (d h : Fin 768) :
    View.ld X rE1 (ix3 0 d h : S1x768x768.Idx) = X (ix3 1 d h) := by
  show X _ = X _
  congr 1; funext a; apply Fin.ext
  fin_cases a
  · show 1 + 1 * 0 = 1; omega
  · show 0 + 1 * d.val = d.val; omega
  · show 0 + 1 * h.val = h.val; omega

/-- The expert's preparing point, and its place in that point's block. -/
theorem prepPt_lt (e : Fin 8) : (prepPt e).val < 4 := by show e.val / 2 < 4; omega

theorem put7_apply (e : Fin 8) (d h : Fin 768) :
    put7 m c e (ix3 0 d h) = m ((c : Thread nD τ).loc main_arg3) (ix3 e d h : S8x768x768.Idx) := by
  unfold put7
  by_cases he : e.val % 2 = 0
  · rw [if_pos he, pay7_apply, ld_rE0, blk_3 m c _ (prepPt_lt e) 0 e (by show e.val = 2 * (e.val / 2) + 0; omega)]
  · rw [if_neg he, pay1_apply, ld_rE1, blk_3 m c _ (prepPt_lt e) 1 e (by show e.val = 2 * (e.val / 2) + 1; omega)]

theorem put8_apply (e : Fin 8) (d h : Fin 768) :
    put8 m c e (ix2 d h) = m ((c : Thread nD τ).loc main_arg7) (ix3 e d h : S8x768x768.Idx) := by
  unfold put8
  by_cases he : e.val % 2 = 0
  · rw [if_pos he, pay8_apply, ld_rE0, blk_4 m c _ (prepPt_lt e) 0 e (by show e.val = 2 * (e.val / 2) + 0; omega)]
  · rw [if_neg he, pay2_apply, ld_rE1, blk_4 m c _ (prepPt_lt e) 1 e (by show e.val = 2 * (e.val / 2) + 1; omega)]

theorem put9_apply (e : Fin 8) (d : Fin 768) :
    put9 m c e (ix2 0 d) = Ideal.div (∑ k : Fin 768, put7 m c e (ix3 0 d k)) ((768 : ℝ) : EReal) := by
  simp only [put7_apply]
  unfold put9
  by_cases he : e.val % 2 = 0
  · rw [if_pos he, pay9_apply]
    congr 1
    exact Finset.sum_congr rfl fun k _ => by
      rw [ld_rE0, blk_3 m c _ (prepPt_lt e) 0 e (by show e.val = 2 * (e.val / 2) + 0; omega)]
  · rw [if_neg he, pay3_apply]
    congr 1
    exact Finset.sum_congr rfl fun k _ => by
      rw [ld_rE1, blk_3 m c _ (prepPt_lt e) 1 e (by show e.val = 2 * (e.val / 2) + 1; omega)]

theorem T7_apply (e : Fin 8) (d h : Fin 768) : T7 m c (ix3 e d h) = m ((c : Thread nD τ).loc main_arg3) (ix3 e d h : S8x768x768.Idx) := by
  rw [← put7_apply m c]
  show put7 m c e _ = put7 m c e _
  congr 1; funext a; fin_cases a <;> rfl

theorem T8_apply (e : Fin 8) (h o : Fin 768) : T8 m c (ix2 (row e h) o) = m ((c : Thread nD τ).loc main_arg7) (ix3 e h o : S8x768x768.Idx) := by
  rw [← put8_apply m c]
  have e1 : (⟨(row e h).val / 768, Nat.div_lt_of_lt_mul (row e h).isLt⟩ : Fin 8) = e := Fin.ext (by show (e.val * 768 + h.val) / 768 = e.val; omega)
  have e2 : (⟨(row e h).val % 768, Nat.mod_lt _ (by decide)⟩ : Fin 768) = h := Fin.ext (by show (e.val * 768 + h.val) % 768 = h.val; omega)
  show put8 m c ⟨(row e h).val / 768, _⟩ (fun | 0 => ⟨(row e h).val % 768, _⟩ | 1 => o) = _
  rw [e1]
  congr 1; funext a; fin_cases a
  · exact e2
  · rfl

theorem T9_apply (e : Fin 8) (d : Fin 768) : T9 m c (ix2 e d) = Ideal.div (∑ k : Fin 768, T7 m c (ix3 e d k)) ((768 : ℝ) : EReal) := by
  have h7 (k : Fin 768) : T7 m c (ix3 e d k) = put7 m c e (ix3 0 d k) := by rw [T7_apply, put7_apply]
  simp only [h7]
  rw [← put9_apply m c]
  show put9 m c e _ = put9 m c e _
  congr 1; funext a; fin_cases a <;> rfl

/-! ## The result array -/

/-- The kernel's result as one array: each row's block at its computing point. -/
def result : Buf (Elt Ideal) ((c : Thread nD τ).loc main_v0) := fun i : S8192x768.Idx =>
  outAt m c ⟨4 + (i 0).val / 512, by
      have : (i 0).val < 8192 := (i 0).isLt
      show 4 + (i 0).val / 512 < 20
      omega⟩
    (ix2 ⟨(i 0).val % 512, Nat.mod_lt _ (by decide)⟩ (i 1) : S512x768.Idx)

theorem flush_ge (t : Fin cfg0.N) (h : (cfg0.win 5).flush t = true) : 4 ≤ t.val := by
  by_contra hlt
  rw [flush5_of_lt t (by omega)] at h
  exact Bool.false_ne_true h

theorem flushed_eq (t : Fin cfg0.N) (hf : (cfg0.win 5).flush t = true) :
    (dats m 0 c).flushed 5 t = (win0_5.blk t).view.read (Elt Ideal) (result m c) := by
  have ht := flush_ge t hf
  obtain ⟨h0, h1, -⟩ := index_5 t ht
  show (cfg0.win 5).cut (grid0.coords t) ((dats m 0 c).after 5 t) = _
  rw [after0_5]
  funext (y : S512x768.Idx)
  have y0 : (y 0).val < 512 := (y 0).isLt
  have i0 : ((win0_5.rect t).idx y 0).val = (t.val - 4) * 512 + (y 0).val := by
    show win0_5.index t 0 * 512 + 1 * (y 0).val = _; rw [h0]; omega
  have i1 : ((win0_5.rect t).idx y 1).val = (y 1).val := by
    show win0_5.index t 1 * 768 + 1 * (y 1).val = _; rw [h1]; omega
  show outAt m c t y = result m c ((win0_5.rect t).idx y)
  unfold result
  have ep : ∀ (hp), (⟨4 + ((win0_5.rect t).idx y 0).val / 512, hp⟩ : Fin cfg0.N) = t := fun hp => Fin.ext (by
    show 4 + ((win0_5.rect t).idx y 0).val / 512 = t.val
    rw [i0]; omega)
  rw [ep]
  congr 1; funext a; apply Fin.ext; fin_cases a
  · show (y 0).val = ((win0_5.rect t).idx y 0).val % 512
    rw [i0]; omega
  · exact i1.symm

theorem mem_blk (t : Fin cfg0.N) (ht : 4 ≤ t.val) (i : S8192x768.Idx) (hi : (i 0).val / 512 = t.val - 4) :
    i ∈ ((cfg0.win 5).blk t).view.set := by
  obtain ⟨h0, h1, x0, x1, -⟩ := index_5 t ht
  show i ∈ ((View.whole main_v0).slice (win0_5.rect t)).set
  rw [View.set_slice_whole, Rect.mem_set_unit]
  have b1 : (i 1).val < 768 := (i 1).isLt
  intro a
  match a with
  | ⟨0, _⟩ =>
    show win0_5.index t 0 * 512 ≤ (i 0).val ∧ (i 0).val < win0_5.index t 0 * 512 + win0_5.xsize (grid0.coords t) 0
    rw [h0, x0]; omega
  | ⟨1, _⟩ =>
    show win0_5.index t 1 * 768 ≤ (i 1).val ∧ (i 1).val < win0_5.index t 1 * 768 + win0_5.xsize (grid0.coords t) 1
    rw [h1, x1]; omega

theorem cover (i : S8192x768.Idx) : ∃ t : Fin cfg0.N, (cfg0.win 5).flush t = true ∧ i ∈ ((cfg0.win 5).blk t).view.set := by
  have b0 : (i 0).val < 8192 := (i 0).isLt
  have ht : 4 + (i 0).val / 512 < cfg0.N := by show _ < 20; omega
  refine ⟨⟨4 + (i 0).val / 512, ht⟩, (index_5 _ (by show 4 ≤ 4 + _; omega)).2.2.2.2, mem_blk _ (by show 4 ≤ 4 + _; omega) i (by show _ = 4 + _ - 4; omega)⟩

theorem final : (dats m 0 c).arrAt 5 cfg0.N = result m c :=
  (dats m 0 c).arrAt_eq_of_cover 5 (result m c) (fun t hf => flushed_eq m c t hf) cover

/-- The run, read: the result array, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h.1 c).1 5).trans (final m c), h.2 c⟩)
    (θ_run_and (run_main m ρ) (frame_of m ρ (dats m) (A_eq m) (run_main m ρ)))

/-- The result at an index, where the input and the first layer's weights are the reals `x` and `W`. -/
theorem result_apply (x : Fin 8192 → Fin 768 → ℝ) (W : Fin 8 → Fin 768 → Fin 768 → ℝ) (ε κ : ℝ)
    (hx : ∀ n k, m ((c : Thread nD τ).loc main_arg0) (ix2 n k : S8192x768.Idx) = (x n k : EReal))
    (hW : ∀ e k h, m ((c : Thread nD τ).loc main_arg3) (ix3 e k h : S8x768x768.Idx) = (W e k h : EReal))
    (hε : 0 < ε) (hε' : Ideal.ofBits .f32 0x3727C5AC#32 = (ε : EReal)) (hκ : Ideal.ofBits .f32 0x3F3504F3#32 = (κ : EReal))
    (n : Fin 8192) (o : Fin 768) :
    result m c (ix2 n o : S8192x768.Idx)
      = Layer.mixed (Layer.logits (fun k => m ((c : Thread nD τ).loc main_arg0) (ix2 n k : S8192x768.Idx))
          (fun k e => m ((c : Thread nD τ).loc main_arg1) (ix2 k e : S768x8.Idx)) (fun e => m ((c : Thread nD τ).loc main_arg2) (ix1 e : S8.Idx)))
          (x n) W ε κ (fun e h o => m ((c : Thread nD τ).loc main_arg7) (ix3 e h o : S8x768x768.Idx)) o := by
  have ht : 4 + n.val / 512 < cfg0.N := by show _ < 20; omega
  have hr : rowOf ⟨4 + n.val / 512, ht⟩ ⟨n.val % 512, Nat.mod_lt _ (by decide)⟩ = n :=
    Fin.ext (by show (4 + n.val / 512 - 4) * 512 + n.val % 512 = n.val; omega)
  have h4 : 4 ≤ (⟨4 + n.val / 512, ht⟩ : Fin cfg0.N).val := by show 4 ≤ 4 + _; omega
  show outAt m c ⟨4 + n.val / 512, ht⟩ (ix2 ⟨n.val % 512, Nat.mod_lt _ (by decide)⟩ o : S512x768.Idx) = _
  unfold outAt
  rw [outBlk_apply _ _ _ _ _ _ (fun r => x (rowOf ⟨4 + n.val / 512, ht⟩ r)) W ε κ
    (fun r k => (blk_0 m c _ h4 r k).trans (hx _ k)) (fun e k h => (T7_apply m c e k h).trans (hW e k h)) (T9_apply m c) hε hε' hκ, hr]
  have hL : logits (iblk m c 0 ⟨4 + n.val / 512, ht⟩) (iblk m c 1 ⟨4 + n.val / 512, ht⟩) (iblk m c 2 ⟨4 + n.val / 512, ht⟩) ⟨n.val % 512, Nat.mod_lt _ (by decide)⟩
      = Layer.logits (fun k => m ((c : Thread nD τ).loc main_arg0) (ix2 n k : S8192x768.Idx))
          (fun k e => m ((c : Thread nD τ).loc main_arg1) (ix2 k e : S768x8.Idx)) (fun e => m ((c : Thread nD τ).loc main_arg2) (ix1 e : S8.Idx)) := by
    funext e
    unfold logits Layer.logits
    rw [blk_2]
    congr 1
    exact Finset.sum_congr rfl fun k _ => by rw [blk_0 m c _ h4, blk_1, hr]
  rw [hL]
  unfold Layer.mixed
  exact Finset.sum_congr rfl fun e _ => by
    congr 1
    exact Finset.sum_congr rfl fun h _ => by rw [T8_apply]

end Cert.Proof.PI
-- ==== Proof.Reference.Experts.lean ====
/-
  The reference's experts over the extended reals: the first layer, its normalization, the activation and the second layer at
  an index, where the input and the first layer's weights are reals, the biases zero, the scale one and the shift zero.
-/
module

public import proofs.«01_k».proof.Proof.Gen.ReferenceIdeal.Read
public import proofs.«01_k».proof.Proof.Layer
public import Idealize.ShloMosaic.Lib.Pointwise
public import Idealize.ShloMosaic.Lib.ValueIdx

@[expose] public section

set_option maxRecDepth 16384

noncomputable section

namespace Cert.Proof.Reference

open Cert.ReferenceIdeal Cert.ReferenceIdeal.Gen Cert.ReferenceIdeal.Read
open Idealize.ShloMosaic
open Cert.ReferenceIdeal.Facts

variable (x0 : Vec Ideal S8192x768 .f32) (x3 : Vec Ideal S8x768x768 .f32) (x4 x5 x6 : Vec Ideal S8x768 .f32)
  (x7 : Vec Ideal S8x768x768 .f32) (x8 : Vec Ideal S8x768 .f32)
variable (x : Fin 8192 → Fin 768 → ℝ) (W : Fin 8 → Fin 768 → Fin 768 → ℝ) (ε κ : ℝ)

/-- What the arguments are known to be. -/
structure Plain : Prop where
  input : ∀ n k, x0 (ix2 n k) = (x n k : EReal)
  first : ∀ e k h, x3 (ix3 e k h) = (W e k h : EReal)
  bias : ∀ e h, x4 (ix2 e h) = 0
  scale : ∀ e h, x5 (ix2 e h) = 1
  shift : ∀ e h, x6 (ix2 e h) = 0
  last : ∀ e o, x8 (ix2 e o) = 0

variable {x0 x3 x4 x5 x6 x7 x8 x W}
variable (H : Plain x0 x3 x4 x5 x6 x8 x W) (n : Fin 8192) (e : Fin 8)
include H

theorem pre_apply (h : Fin 768) : val_main_v22 (F := Ideal) x0 x3 x4 (ix3 n e h) = (Hidden.pre (x n) (W e) h : EReal) := by
  have : val_main_v22 (F := Ideal) x0 x3 x4 (ix3 n e h) = ∑ k : Fin 768, x0 (ix2 n k) * x3 (ix3 e k h) + x4 (ix2 e h) := by
    unfold val_main_v22 val_main_v19 val_main_v21 val_main_v20
    simp only [pointwise]
    simp
  rw [this, H.bias, add_zero]
  exact Hidden.pre_coe (H.input n) (H.first e) h

theorem mean_apply : val_main_v26 (F := Ideal) x0 x3 x4 (ix3 n e 0) = (Hidden.mean (x n) (W e) : EReal) := by
  have : val_main_v26 (F := Ideal) x0 x3 x4 (ix3 n e 0)
      = Ideal.div (∑ h : Fin 768, val_main_v22 (F := Ideal) x0 x3 x4 (ix3 n e h)) (Ideal.ofBits .f32 0x44400000#32) := by
    unfold val_main_v26 val_main_v24 val_main_v23 val_main_v25 val_main_cst_3 val_main_cst_4
    simp only [pointwise]
    simp
  rw [this, Hidden.ofBits_768]
  exact Hidden.mean_ref (pre_apply H n e)

theorem mean_apply' : val_main_call0_v3 (F := Ideal) x0 x3 x4 (ix3 n e 0) = (Hidden.mean (x n) (W e) : EReal) := by
  rw [← mean_apply H n e]; rfl

theorem var_apply : val_main_v27 (F := Ideal) x0 x3 x4 (ix3 n e 0) = (Hidden.var (x n) (W e) : EReal) := by
  have h8 (j : S_.Idx) : val_main_call0_v8 (F := Ideal) j = ((768 : ℝ) : EReal) := by
    unfold val_main_call0_v8 val_main_call0_cst_1 val_main_call0_v7 val_main_c
    simp only [pointwise]
    rw [Hidden.ofBits_768, show (FloatOps.sitofp (F := Ideal) .f32 (0#32 : BitVec 32) : EReal) = 0 from by
      show (((0#32 : BitVec 32).toInt : ℝ) : EReal) = 0; simp]
    simp
  have h13 (j : S_.Idx) : val_main_call0_v13 (F := Ideal) j = 1#1 := by
    unfold val_main_call0_v13 val_main_call0_cst_3
    simp only [pointwise, h8]
    have h0 : (0 : EReal) < ((768 : ℝ) : EReal) := by exact_mod_cast (by norm_num : (0 : ℝ) < 768)
    simp [h0]
  have h12 : val_main_call0_v12 (F := Ideal) x0 x3 x4 (ix3 n e 0) = (Hidden.var (x n) (W e) : EReal) := by
    rw [← Hidden.var_ref (pre_apply H n e)]
    unfold val_main_call0_v12 val_main_call0_v11 val_main_call0_v10 val_main_call0_v9 val_main_call0_v6 val_main_call0_v5 val_main_call0_v4 val_main_call0_cst_2
    simp only [pointwise, h8, mean_apply' H]
    simp [mean_apply' H]
  unfold val_main_v27
  simp only [pointwise, h13, h12]

theorem normed_apply (hε : 0 < ε) (hε' : Ideal.ofBits .f32 0x3727C5AC#32 = (ε : EReal)) (h : Fin 768) :
    val_main_v40 (F := Ideal) x0 x3 x4 x5 x6 (ix3 n e h) = (Hidden.normed (x n) (W e) ε h : EReal) := by
  have h34 : val_main_v34 (F := Ideal) x0 x3 x4 (ix3 n e h) = (Hidden.normed (x n) (W e) ε h : EReal) := by
    rw [← Hidden.normed_ref hε h]
    unfold val_main_v34 val_main_v29 val_main_v28 val_main_v33 val_main_v32 val_main_v31 val_main_v30 val_main_cst_5
    simp only [pointwise, pre_apply H, mean_apply H, var_apply H, hε']
    simp [mean_apply H, var_apply H]
  unfold val_main_v40 val_main_v37 val_main_v39 val_main_v38 val_main_v36 val_main_v35
  simp only [pointwise, h34, H.scale, H.shift]
  simp [H.scale, H.shift]

theorem act_apply (hε : 0 < ε) (hε' : Ideal.ofBits .f32 0x3727C5AC#32 = (ε : EReal)) (hκ : Ideal.ofBits .f32 0x3F3504F3#32 = (κ : EReal))
    (h : Fin 768) : val_main_v47 (F := Ideal) x0 x3 x4 x5 x6 (ix3 n e h) = (Hidden.act (x n) (W e) ε κ h : EReal) := by
  rw [← Hidden.act_ref]
  unfold val_main_v47 val_main_v42 val_main_v46 val_main_v45 val_main_v43 val_main_v44 val_main_v41 val_main_cst_6 val_main_cst_7
  simp only [pointwise, normed_apply ε H n e hε hε', hκ, Hidden.ofBits_half]

/-- An expert's result, before the gate. -/
theorem expert_apply (hε : 0 < ε) (hε' : Ideal.ofBits .f32 0x3727C5AC#32 = (ε : EReal)) (hκ : Ideal.ofBits .f32 0x3F3504F3#32 = (κ : EReal))
    (o : Fin 768) : val_main_v52 (F := Ideal) x0 x3 x4 x5 x6 x7 x8 (ix3 n e o)
      = ∑ h : Fin 768, (Hidden.act (x n) (W e) ε κ h : EReal) * x7 (ix3 e h o) := by
  have : val_main_v52 (F := Ideal) x0 x3 x4 x5 x6 x7 x8 (ix3 n e o)
      = ∑ h : Fin 768, x7 (ix3 e h o) * val_main_v47 (F := Ideal) x0 x3 x4 x5 x6 (ix3 n e h) + x8 (ix2 e o) := by
    unfold val_main_v52 val_main_v49 val_main_v48 val_main_v51 val_main_v50
    simp only [pointwise]
    simp
  rw [this, H.last, add_zero]
  exact Finset.sum_congr rfl fun h _ => by rw [act_apply ε κ H n e hε hε' hκ]; exact mul_comm _ _

end Cert.Proof.Reference
-- ==== Proof.Reference.Choice.lean ====
/-
  The reference's gate over the extended reals: the softmax of a row's logits, its two greatest probabilities with their
  lanes, the chosen experts' results read at those lanes, and the mixture.
-/
module

public import proofs.«01_k».proof.Proof.Reference.Experts

@[expose] public section

set_option maxRecDepth 16384

noncomputable section

namespace Cert.Proof.Reference

open Cert.ReferenceIdeal Cert.ReferenceIdeal.Gen Cert.ReferenceIdeal.Read
open Idealize.ShloMosaic
open Cert.ReferenceIdeal.Facts

variable (x0 : Vec Ideal S8192x768 .f32) (x1 : Vec Ideal S768x8 .f32) (x2 : Vec Ideal S8 .f32)

/-- A row's logits. -/
def logitsAt (n : Fin 8192) : Fin 8 → EReal :=
  Layer.logits (fun k => x0 (ix2 n k)) (fun k e => x1 (ix2 k e)) (fun e => x2 (ix1 e))

theorem logits_apply (n : Fin 8192) (e : Fin 8) : val_main_v3 (F := Ideal) x0 x1 x2 (ix2 n e) = logitsAt x0 x1 x2 n e := by
  unfold val_main_v3 val_main_v0 val_main_v2 val_main_v1
  simp only [pointwise]
  simp
  rfl

theorem top_apply (n : Fin 8192) : val_main_v6 (F := Ideal) x0 x1 x2 (ix1 n) = Gate.top (logitsAt x0 x1 x2 n) := by
  unfold val_main_v6 val_main_v5 val_main_v4 val_main_cst val_main_cst_0
  simp only [pointwise, logits_apply, Hidden.ofBits_neg_inf]
  exact max_eq_right bot_le

theorem prob_apply (n : Fin 8192) (e : Fin 8) : val_main_v14 (F := Ideal) x0 x1 x2 (ix2 n e) = Gate.prob (logitsAt x0 x1 x2 n) e := by
  have h10 (k : Fin 8) : val_main_v10 (F := Ideal) x0 x1 x2 (ix2 n k) = Ideal.exp (logitsAt x0 x1 x2 n k - Gate.top (logitsAt x0 x1 x2 n)) := by
    unfold val_main_v10 val_main_v9 val_main_v8 val_main_v7
    simp only [pointwise, logits_apply]
    simp [top_apply]
  unfold val_main_v14 val_main_v13 val_main_v12 val_main_v11 val_main_cst_1
  simp only [pointwise, h10]
  simp [Gate.prob, h10]

/-! ## The two greatest -/

theorem along_lane (n : Fin 8192) (j k : Fin 8) : (ix2 n j : S8192x8.Idx).along (⟨1, Nat.one_lt_two⟩ : Fin S8192x8.rank) k = ix2 n k := by
  funext a; fin_cases a <;> rfl

theorem greater (a b : EReal) : (FloatOps.cmpfTotal (F := Ideal) (φ := .f32) .gt a b == 1#1) = decide (b < a) := by
  show (BitVec.ofBool (decide (b < a)) == 1#1) = _
  cases decide (b < a) <;> rfl

/-- The stable sort along the lanes, the greater first, reads each row at the lane `Gate.pick` names. -/
theorem sorted (X : Vec Ideal S8192x8 .f32) (Y : IVec S8192x8 32) (n : Fin 8192) (j : Fin 8) :
    (Host.sort2 S8192x8 1 (fun l r => FloatOps.cmpfTotal (F := Ideal) (φ := .f32) .gt l.1 r.1) X Y).1 (ix2 n j)
        = X (ix2 n (Gate.pick (fun e => X (ix2 n e)) j))
    ∧ (Host.sort2 S8192x8 1 (fun l r => FloatOps.cmpfTotal (F := Ideal) (φ := .f32) .gt l.1 r.1) X Y).2 (ix2 n j)
        = Y (ix2 n (Gate.pick (fun e => X (ix2 n e)) j)) := by
  have hs : sortedFrom (fun k k' : Fin 8 => FloatOps.cmpfTotal (F := Ideal) (φ := .f32) .gt
      (X ((ix2 n j : S8192x8.Idx).along (⟨1, Nat.one_lt_two⟩ : Fin S8192x8.rank) k)) (X ((ix2 n j : S8192x8.Idx).along (⟨1, Nat.one_lt_two⟩ : Fin S8192x8.rank) k')) == 1#1) j
      = Gate.pick (fun e => X (ix2 n e)) j := by
    unfold Gate.pick
    congr 1; funext k k'
    rw [along_lane, along_lane]; exact greater _ _
  unfold Host.sort2
  rw [dif_pos (by decide : 1 < S8192x8.rank)]
  constructor
  · refine Eq.trans ?_ (congrArg X (along_lane n j (Gate.pick (fun e => X (ix2 n e)) j)))
    rw [← hs]; rfl
  · refine Eq.trans ?_ (congrArg Y (along_lane n j (Gate.pick (fun e => X (ix2 n e)) j)))
    rw [← hs]; rfl

/-- One of the two, as a lane of the eight. -/
def two (j : Fin 2) : Fin 8 := ⟨j.val, by omega⟩

theorem zero_add_lane (n : Fin 8192) (j : Fin 2) (h1 h2) : (ix2 ⟨0 + n.val, h1⟩ ⟨0 + j.val, h2⟩ : S8192x8.Idx) = ix2 n (two j) := by
  congr 1 <;> exact Fin.ext (Nat.zero_add _)

theorem values_apply (n : Fin 8192) (j : Fin 2) : val_main_values (F := Ideal) x0 x1 x2 (ix2 n j)
    = Gate.prob (logitsAt x0 x1 x2 n) (Gate.pick (Gate.prob (logitsAt x0 x1 x2 n)) ⟨j.val, by omega⟩) := by
  have hp : (fun e => val_main_v14 (F := Ideal) x0 x1 x2 (ix2 n e)) = Gate.prob (logitsAt x0 x1 x2 n) := funext (prob_apply x0 x1 x2 n)
  rw [← hp]
  unfold val_main_values Host.topK
  dsimp only
  simp only [pointwise]
  rw [zero_add_lane]
  exact (sorted _ _ n (two j)).1

theorem indices_apply (n : Fin 8192) (j : Fin 2) : val_main_indices (F := Ideal) x0 x1 x2 (ix2 n j)
    = BitVec.ofNat 32 (Gate.pick (Gate.prob (logitsAt x0 x1 x2 n)) (two j)).val := by
  have hp : (fun e => val_main_v14 (F := Ideal) x0 x1 x2 (ix2 n e)) = Gate.prob (logitsAt x0 x1 x2 n) := funext (prob_apply x0 x1 x2 n)
  rw [← hp]
  unfold val_main_indices Host.topK
  dsimp only
  simp only [pointwise]
  rw [zero_add_lane]
  exact (sorted _ _ n (two j)).2

/-- The chosen two's probabilities over their sum. -/
theorem share_apply (n : Fin 8192) (j : Fin 2) : val_main_v18 (F := Ideal) x0 x1 x2 (ix2 n j)
    = Ideal.div (Gate.prob (logitsAt x0 x1 x2 n) (Gate.pick (Gate.prob (logitsAt x0 x1 x2 n)) (two j)))
        (Gate.prob (logitsAt x0 x1 x2 n) (Gate.pick (Gate.prob (logitsAt x0 x1 x2 n)) 0)
          + Gate.prob (logitsAt x0 x1 x2 n) (Gate.pick (Gate.prob (logitsAt x0 x1 x2 n)) 1)) := by
  unfold val_main_v18 val_main_v17 val_main_v16 val_main_v15 val_main_cst_2
  simp only [pointwise, values_apply]
  simp [values_apply, Fin.sum_univ_two]
  rfl

/-! ## The chosen experts' results -/

theorem lane_lookup : ∀ e : Fin 8, IntOp.cmpi .slt (BitVec.ofNat 32 e.val) 0#32 = 0#1 ∧ IntOp.cmpi .sge (BitVec.ofNat 32 e.val) 0#32 = 1#1
    ∧ IntOp.cmpi .sle (BitVec.ofNat 32 e.val) 7#32 = 1#1 ∧ min (BitVec.ofNat 32 e.val).toInt.toNat 7 = e.val := by decide +kernel

theorem lane_apply (n : Fin 8192) (j : Fin 2) : val_main_call1_v4 (F := Ideal) x0 x1 x2 (ix3 n j 0)
    = BitVec.ofNat 32 (Gate.pick (Gate.prob (logitsAt x0 x1 x2 n)) (two j)).val := by
  have h53 : val_main_v53 (F := Ideal) x0 x1 x2 (ix3 n j 0) = BitVec.ofNat 32 (Gate.pick (Gate.prob (logitsAt x0 x1 x2 n)) (two j)).val := by
    unfold val_main_v53
    simp only [pointwise, indices_apply]
    simp [indices_apply]
  unfold val_main_call1_v4 val_main_call1_v1 val_main_call1_v0 val_main_call1_c
  simp only [pointwise, h53, (lane_lookup _).1]

theorem found_apply (n : Fin 8192) (j : Fin 2) : val_main_call1_v11 (F := Ideal) x0 x1 x2 (ix2 n j) = 1#1 := by
  unfold val_main_call1_v11 val_main_call1_v10 val_main_call1_v9 val_main_call1_v8 val_main_call1_v7 val_main_call1_v6 val_main_call1_v5
    val_main_call1_c_1 val_main_call1_c_2 val_main_call1_c_3
  simp only [pointwise]
  simp [lane_apply, lane_lookup]
  rfl

end Cert.Proof.Reference
-- ==== Proof.Reference.Value.lean ====
/-
  The reference's result at an index: its read of the chosen experts' results at their lanes, and the sum of the two,
  each times its share of the gate.
-/
module

public import proofs.«01_k».proof.Proof.Reference.Choice

@[expose] public section

set_option maxRecDepth 16384

noncomputable section

namespace Cert.Proof.Reference

open Cert.ReferenceIdeal Cert.ReferenceIdeal.Gen Cert.ReferenceIdeal.Read
open Idealize.ShloMosaic
open Cert.ReferenceIdeal.Facts

/-- The read along the expert axis: row `n` and column `o` stay, and the expert is the one the index array holds, kept
    within the eight. -/
theorem read_expert {α : Type} (y : S8192x8x768.Idx → α) (idx : IVec S8192x2x1 32) (n : Fin 8192) (j : Fin 2) (o : Fin 768) :
    Host.gather gather_S8192x8x768_S8192x2x1_S8192x2x768_2_1_0_0_1_2_11768 y idx (ix3 n j o)
      = y (ix3 n ⟨min (idx (ix3 n j 0)).toInt.toNat 7, by omega⟩ o) := by
  unfold Host.gather
  congr 1
  funext a
  refine Fin.ext ?_
  show GatherDims.start _ (ix3 n j o) idx a + GatherDims.batchCoord _ (ix3 n j o) a + GatherDims.offCoord _ (ix3 n j o) a = _
  generalize hd : gather_S8192x8x768_S8192x2x1_S8192x2x768_2_1_0_0_1_2_11768 = d
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · have h0 : (0 : Fin 3) ∈ d.operandBatchingDims := by rw [← hd]; exact List.mem_singleton.mpr rfl
    rw [GatherDims.start_batching _ _ _ _ h0,
      GatherDims.offCoord_eq_zero _ _ _ (fun h => ((GatherDims.mem_sKept _ _).mp h).2 h0)]
    simp only [Nat.zero_add, Nat.add_zero]
    unfold GatherDims.batchCoord
    rw [dif_pos h0]
    subst hd
    rfl
  · have h1 : (1 : Fin 3) ∈ d.startIndexMap := by rw [← hd]; exact List.mem_singleton.mpr rfl
    have hc : (1 : Fin 3) ∈ d.collapsedSliceDims := by rw [← hd]; exact List.mem_singleton.mpr rfl
    have hb : (1 : Fin 3) ∉ d.operandBatchingDims := by rw [← hd]; exact fun h => absurd (List.mem_singleton.mp h) (by decide)
    rw [GatherDims.batchCoord_eq_zero _ _ _ hb,
      GatherDims.offCoord_eq_zero _ _ _ (fun h => ((GatherDims.mem_sKept _ _).mp h).1 hc)]
    simp only [Nat.add_zero]
    unfold GatherDims.start
    rw [dif_pos h1]
    have hs : d.siIdx (ix3 n j o) ⟨List.idxOf (1 : Fin 3) d.startIndexMap, List.idxOf_lt_length_iff.2 h1⟩ = ix3 n j 0 := by
      subst hd
      funext b; refine Fin.ext ?_
      match b with
      | ⟨0, _⟩ => rfl
      | ⟨1, _⟩ => rfl
      | ⟨2, _⟩ => rfl
    rw [hs]
    subst hd
    rfl
  · have hm : (2 : Fin 3) ∉ d.startIndexMap := by rw [← hd]; exact fun h => absurd (List.mem_singleton.mp h) (by decide)
    have hb : (2 : Fin 3) ∉ d.operandBatchingDims := by rw [← hd]; exact fun h => absurd (List.mem_singleton.mp h) (by decide)
    have hc : (2 : Fin 3) ∉ d.collapsedSliceDims := by rw [← hd]; exact fun h => absurd (List.mem_singleton.mp h) (by decide)
    have hk : (2 : Fin 3) ∈ d.sKept := (GatherDims.mem_sKept _ _).mpr ⟨hc, hb⟩
    rw [GatherDims.batchCoord_eq_zero _ _ _ hb]
    unfold GatherDims.start GatherDims.offCoord
    rw [dif_neg hm, dif_pos hk]
    simp only [Nat.zero_add]
    subst hd
    rfl

variable {x0 : Vec Ideal S8192x768 .f32} (x1 : Vec Ideal S768x8 .f32) (x2 : Vec Ideal S8 .f32)
  {x3 : Vec Ideal S8x768x768 .f32} {x4 x5 x6 : Vec Ideal S8x768 .f32} {x7 : Vec Ideal S8x768x768 .f32} {x8 : Vec Ideal S8x768 .f32}
  {x : Fin 8192 → Fin 768 → ℝ} {W : Fin 8 → Fin 768 → Fin 768 → ℝ} {ε κ : ℝ}

/-- The result of the `j`-th chosen expert. -/
theorem chosen_apply (n : Fin 8192) (j : Fin 2) (o : Fin 768) : val_main_v54 (F := Ideal) x0 x1 x2 x3 x4 x5 x6 x7 x8 (ix3 n j o)
    = val_main_v52 (F := Ideal) x0 x3 x4 x5 x6 x7 x8 (ix3 n (Gate.pick (Gate.prob (logitsAt x0 x1 x2 n)) (two j)) o) := by
  have hg : val_main_call1_v12 (F := Ideal) x0 x1 x2 x3 x4 x5 x6 x7 x8 (ix3 n j o)
      = val_main_v52 (F := Ideal) x0 x3 x4 x5 x6 x7 x8 (ix3 n (Gate.pick (Gate.prob (logitsAt x0 x1 x2 n)) (two j)) o) := by
    unfold val_main_call1_v12
    rw [read_expert]
    have he : (⟨min (val_main_call1_v4 (F := Ideal) x0 x1 x2 (ix3 n j 0)).toInt.toNat 7, by omega⟩ : Fin 8)
        = Gate.pick (Gate.prob (logitsAt x0 x1 x2 n)) (two j) := by
      refine Fin.ext ?_
      show min (val_main_call1_v4 (F := Ideal) x0 x1 x2 (ix3 n j 0)).toInt.toNat 7 = _
      rw [lane_apply]
      exact (lane_lookup _).2.2.2
    rw [he]
  unfold val_main_v54 val_main_call1_v13
  simp only [pointwise]
  simp only [hg]
  simp [found_apply]
  rfl

theorem result_apply (H : Plain x0 x3 x4 x5 x6 x8 x W) (hε : 0 < ε) (hε' : Ideal.ofBits .f32 0x3727C5AC#32 = (ε : EReal))
    (hκ : Ideal.ofBits .f32 0x3F3504F3#32 = (κ : EReal)) (n : Fin 8192) (o : Fin 768) :
    val_main_v58 (F := Ideal) x0 x1 x2 x3 x4 x5 x6 x7 x8 (ix2 n o)
      = Layer.mixed (logitsAt x0 x1 x2 n) (x n) W ε κ (fun e h o => x7 (ix3 e h o)) o := by
  have hs : val_main_v58 (F := Ideal) x0 x1 x2 x3 x4 x5 x6 x7 x8 (ix2 n o)
      = ∑ j : Fin 2, val_main_v54 (F := Ideal) x0 x1 x2 x3 x4 x5 x6 x7 x8 (ix3 n j o) * val_main_v18 (F := Ideal) x0 x1 x2 (ix2 n j) := by
    unfold val_main_v58 val_main_v57 val_main_v56 val_main_v55 val_main_cst_8
    simp only [pointwise]
    simp
  rw [hs, Fin.sum_univ_two, chosen_apply, chosen_apply, share_apply, share_apply,
    expert_apply ε κ H n _ hε hε' hκ, expert_apply ε κ H n _ hε hε' hκ]
  exact (Gate.mixture (Gate.probs_prob (logitsAt x0 x1 x2 n))
    (fun e => ∑ h : Fin 768, (Hidden.act (x n) (W e) ε κ h : EReal) * x7 (ix3 e h o))).symm

end Cert.Proof.Reference
-- ==== Proof.Algebraic.lean ====
/-
  The kernel's result array is the reference's, over the extended reals.
-/
module

public import proofs.«01_k».proof.Defs
public import proofs.«01_k».proof.Proof.Gen.Pre_plain_norm_finite_args
public import proofs.«01_k».proof.Proof.Gen.ReferenceIdeal.Run
public import proofs.«01_k».proof.Proof.Gen.ReferenceIdeal.Read
public import proofs.«01_k».proof.Proof.Args
public import proofs.«01_k».proof.Proof.PI.Output
public import proofs.«01_k».proof.Proof.Reference.Value

@[expose] public section

noncomputable section

namespace Cert.Proof

open Idealize.ShloMosaic Idealize.SL.Sem

/-- On arguments the condition admits, row `n` and column `o` of either result are the same mixture of the same experts. -/
theorem algebraic : Cert.algebraic_KernelIdeal_ReferenceIdeal_pre_plain_norm_finite_args := by
  intro m ρ m' ρ' hpre hagree
  refine ⟨fun c => PI.result m c, PI.run m ρ, ?_⟩
  refine (θ_run Cert.ReferenceIdeal.defs _ _).mono (fun _ h c => ⟨(h c).1.trans ?_, (h c).2⟩)
    (Cert.ReferenceIdeal.Value.run (F := Ideal) m' ρ')
  obtain ⟨h4, h5, h6, h8, hx, hW⟩ := Args.read _ _ _ _ _ _ _ _ _ (hpre c)
  obtain ⟨e0, e1, e2, e3, e4, e5, e6, e7, e8⟩ := hagree c
  rw [Cert.ReferenceIdeal.Read.val_main_v58_eq m' c, e0, e1, e2, e3, e4, e5, e6, e7, e8]
  choose x hx using hx
  choose W hW using hW
  obtain ⟨ε, hε, hε'⟩ := Hidden.ofBits_eps
  obtain ⟨κ, hκ⟩ := Hidden.ofBits_scale
  funext i
  obtain ⟨n, o, rfl⟩ : ∃ (n : Fin 8192) (o : Fin 768), i = ix2 n o :=
    ⟨i 0, i 1, funext fun a => by match a with | ⟨0, _⟩ => rfl | ⟨1, _⟩ => rfl⟩
  refine (Reference.result_apply (x := fun n k => x (ix2 n k)) (W := fun e k h => W (ix3 e k h)) _ _
    ⟨fun n k => hx _, fun e k h => hW _, fun e h => h4 _, fun e h => h5 _, fun e h => h6 _, fun e o => h8 _⟩ hε hε' hκ n o).trans ?_
  exact (PI.result_apply m c _ _ ε κ (fun n k => hx _) (fun e k h => hW _) hε hε' hκ n o).symm

end Cert.Proof
-- ==== Proof.lean ====
/-
  The certificate: the kernel as printed and idealized and the plain reference each run and leave the machine quiescent,
  the kernel's one named constant is what its table says, and the idealized kernel and the reference end with the same
  result array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_plain_norm_finite_args
public import proofs.«01_k».proof.Proof.Gen.ReferenceIdeal.Run
public import proofs.«01_k».proof.Proof.Gen.ReferenceIdeal.Read
public import proofs.«01_k».proof.Proof.PI.Frame
public import proofs.«01_k».proof.Proof.P.Frame
public import proofs.«01_k».proof.Proof.Ref
public import proofs.«01_k».proof.Proof.Algebraic

@[expose] public section

noncomputable section

namespace Cert.Proof

open Idealize.ShloMosaic Idealize.SL.Sem

theorem frame_p : Cert.quiescent_Kernel := fun m ρ _ => Cert.Proof.P.frame m ρ
theorem frame_pi : Cert.quiescent_KernelIdeal := fun m ρ _ => Cert.Proof.PI.frame m ρ
theorem frame_pi_pre : Cert.quiescent_KernelIdeal_pre_plain_norm_finite_args := fun m ρ _ => Cert.Proof.PI.frame m ρ
theorem frame_ri_pre : Cert.quiescent_ReferenceIdeal_pre_plain_norm_finite_args := fun m ρ _ => Ref.frame m ρ trivial

/-- The named constant: the table gives `"inv_h"` the real `1/768`. -/
theorem preserves : Cert.preserves_Kernel_KernelIdeal :=
  IdealRules.named_const.statement Cert.KernelIdeal.κ "inv_h" .f32 0x3AAAAAAB#32 ((768⁻¹ : ℝ) : EReal) rfl

theorem claim : Cert.Claim :=
  ⟨Cert.Kernel.Gen.facts, Cert.KernelIdeal.Gen.facts, Cert.ReferenceIdeal.Gen.facts, Cert.Pre_plain_norm_finite_args.Gen.facts,
    frame_p, frame_pi, frame_pi_pre, Ref.frame, frame_ri_pre, preserves, algebraic⟩

end Cert.Proof

end
